-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_text_in_range [hPre_text_in_range : Cert.Pre_text_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_text_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_text_in_range [hPre_text_in_range : Cert.Pre_text_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_text_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_text_in_range [hKernelIdeal : Cert.KernelIdeal.Facts] [hPre_text_in_range : Cert.Pre_text_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_text_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_text_in_range [hReferenceIdeal : Cert.ReferenceIdeal.Facts] [hPre_text_in_range : Cert.Pre_text_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_text_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_text_in_range [hKernelIdeal : Cert.KernelIdeal.Facts] [hReferenceIdeal : Cert.ReferenceIdeal.Facts] [hPre_text_in_range : Cert.Pre_text_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_text_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_text_in_range : Cert.Pre_text_in_range.Facts),
    quiescent_Kernel (hKernel := hKernel)
    ∧ quiescent_KernelIdeal (hKernelIdeal := hKernelIdeal)
    ∧ quiescent_KernelIdeal_pre_text_in_range (hKernelIdeal := hKernelIdeal) (hPre_text_in_range := hPre_text_in_range)
    ∧ quiescent_ReferenceIdeal (hReferenceIdeal := hReferenceIdeal)
    ∧ quiescent_ReferenceIdeal_pre_text_in_range (hReferenceIdeal := hReferenceIdeal) (hPre_text_in_range := hPre_text_in_range)
    ∧ preserves_Kernel_KernelIdeal
    ∧ algebraic_KernelIdeal_ReferenceIdeal_pre_text_in_range (hKernelIdeal := hKernelIdeal) (hReferenceIdeal := hReferenceIdeal) (hPre_text_in_range := hPre_text_in_range)
-- ==== Pre_text_in_range.lean ====
abbrev S256x512x8x32 : Shape := ⟨4, ![256, 512, 8, 32]⟩
abbrev S256x32 : Shape := ⟨2, ![256, 32]⟩
abbrev S512x97 : Shape := ⟨2, ![512, 97]⟩
abbrev S512 : Shape := ⟨1, ![512]⟩
abbrev S2048x512 : Shape := ⟨2, ![2048, 512]⟩
abbrev S2048 : Shape := ⟨1, ![2048]⟩
abbrev S97x512 : Shape := ⟨2, ![97, 512]⟩
abbrev S97 : Shape := ⟨1, ![97]⟩
abbrev S_ : Shape := ⟨0, ![]⟩

class Facts : Prop where
  bcast_S_S256x32 : S_.BroadcastsInDim S256x32 (![] : Fin 0 → Fin S256x32.rank)
  reducesTo_S256x32_S_d0_1 : S256x32.ReducesTo [0, 1] S_
  h_S_ : 0 < S_.numel

variable [Facts]

def fn {F : FTy → Type} [FloatOps F] (main_arg0 : FVec F S256x512x8x32 .f32) (main_arg1 : IVec S256x32 32) (main_arg2 : FVec F S512x97 .f32) (main_arg3 : FVec F S512 .f32) (main_arg4 : FVec F S2048x512 .f32) (main_arg5 : FVec F S2048x512 .f32) (main_arg6 : FVec F S2048 .f32) (main_arg7 : FVec F S2048 .f32) (main_arg8 : FVec F S2048x512 .f32) (main_arg9 : FVec F S2048x512 .f32) (main_arg10 : FVec F S2048 .f32) (main_arg11 : FVec F S2048 .f32) (main_arg12 : FVec F S97x512 .f32) (main_arg13 : FVec F S97 .f32) (main_arg14 : IVec S_ 32) : IVec S_ 1 :=
  let main_c : IVec S_ 32 := constantI S_ 32 0#32
  let main_v0 : IVec S256x32 32 := broadcastInDim S256x32 ![] bcast_S_S256x32 main_c
  let main_v1 : IVec S256x32 1 := cmpi .sge main_arg1 main_v0
  let main_c_0 : IVec S_ 32 := constantI S_ 32 97#32
  let main_v2 : IVec S256x32 32 := broadcastInDim S256x32 ![] bcast_S_S256x32 main_c_0
  let main_v3 : IVec S256x32 1 := cmpi .slt main_arg1 main_v2
  let main_v4 : IVec S256x32 1 := andi main_v1 main_v3
  let main_c_1 : IVec S_ 1 := constantI S_ 1 1#1
  let main_v5 : IVec S_ 1 := (fun x v => Host.reduce IntOp.andi x v reducesTo_S256x32_S_d0_1 h_S_) main_v4 main_c_1
  main_v5
-- ==== Kernel.lean ====
abbrev S256x512x8x32 : Shape := ⟨4, ![256, 512, 8, 32]⟩
abbrev S256x32 : Shape := ⟨2, ![256, 32]⟩
abbrev S512x97 : Shape := ⟨2, ![512, 97]⟩
abbrev S512 : Shape := ⟨1, ![512]⟩
abbrev S2048x512 : Shape := ⟨2, ![2048, 512]⟩
abbrev S2048 : Shape := ⟨1, ![2048]⟩
abbrev S97x512 : Shape := ⟨2, ![97, 512]⟩
abbrev S97 : Shape := ⟨1, ![97]⟩
abbrev S_ : Shape := ⟨0, ![]⟩
abbrev S256x8x32x512 : Shape := ⟨4, ![256, 8, 32, 512]⟩
abbrev S256x256x512 : Shape := ⟨3, ![256, 256, 512]⟩
abbrev S32x256 : Shape := ⟨2, ![32, 256]⟩
abbrev S32x256x1 : Shape := ⟨3, ![32, 256, 1]⟩
abbrev S128 : Shape := ⟨1, ![128]⟩
abbrev S1x1x128 : Shape := ⟨3, ![1, 1, 128]⟩
abbrev S32x256x128 : Shape := ⟨3, ![32, 256, 128]⟩
abbrev S128x512 : Shape := ⟨2, ![128, 512]⟩
abbrev S1 : Shape := ⟨1, ![1]⟩
abbrev S1x512 : Shape := ⟨2, ![1, 512]⟩
abbrev S512x2048 : Shape := ⟨2, ![512, 2048]⟩
abbrev S1x512x2048 : Shape := ⟨3, ![1, 512, 2048]⟩
abbrev S4x512x2048 : Shape := ⟨3, ![4, 512, 2048]⟩
abbrev S1x2048 : Shape := ⟨2, ![1, 2048]⟩
abbrev S512x128 : Shape := ⟨2, ![512, 128]⟩
abbrev S1x128 : Shape := ⟨2, ![1, 128]⟩
abbrev S2 : Shape := ⟨1, ![2]⟩
abbrev S32x256x512 : Shape := ⟨3, ![32, 256, 512]⟩
abbrev S32x256x256 : Shape := ⟨3, ![32, 256, 256]⟩
abbrev S32x128x128 : Shape := ⟨3, ![32, 128, 128]⟩
abbrev S128x256x512 : Shape := ⟨3, ![128, 256, 512]⟩
abbrev S128x256 : Shape := ⟨2, ![128, 256]⟩
abbrev S32x128x512 : Shape := ⟨3, ![32, 128, 512]⟩
abbrev S32x128x256 : Shape := ⟨3, ![32, 128, 256]⟩
abbrev S1x128x128 : Shape := ⟨3, ![1, 128, 128]⟩
abbrev S128x128 : Shape := ⟨2, ![128, 128]⟩
abbrev S128x2048 : Shape := ⟨2, ![128, 2048]⟩
abbrev S128x1x512 : Shape := ⟨3, ![128, 1, 512]⟩
abbrev S1x128x256 : Shape := ⟨3, ![1, 128, 256]⟩
abbrev S128x256x1 : Shape := ⟨3, ![128, 256, 1]⟩
abbrev S128x4x64x512 : Shape := ⟨4, ![128, 4, 64, 512]⟩
abbrev S128x64x512 : Shape := ⟨3, ![128, 64, 512]⟩
abbrev S1x128x512 : Shape := ⟨3, ![1, 128, 512]⟩
abbrev S4096x512 : Shape := ⟨2, ![4096, 512]⟩
abbrev S4096x128 : Shape := ⟨2, ![4096, 128]⟩
abbrev S256x32x128 : Shape := ⟨3, ![256, 32, 128]⟩
abbrev S256x32x97 : Shape := ⟨3, ![256, 32, 97]⟩
abbrev S256x32x512 : Shape := ⟨3, ![256, 32, 512]⟩
abbrev S256x32x256 : Shape := ⟨3, ![256, 32, 256]⟩
abbrev S256x32x8x32 : Shape := ⟨4, ![256, 32, 8, 32]⟩

abbrev nBuf : Space → Nat
  | .hbm => 73
  | .vmem => 17
  | .smem => 0
  | _ => 0

abbrev bufTy : (tb : Table) → Fin (tcTables nBuf tb) → BufTy
  | .hbm, ⟨0, _⟩ => ⟨S256x512x8x32, .f32⟩
  | .hbm, ⟨1, _⟩ => ⟨S256x32, .i32⟩
  | .hbm, ⟨2, _⟩ => ⟨S512x97, .f32⟩
  | .hbm, ⟨3, _⟩ => ⟨S512, .f32⟩
  | .hbm, ⟨4, _⟩ => ⟨S2048x512, .f32⟩
  | .hbm, ⟨5, _⟩ => ⟨S2048x512, .f32⟩
  | .hbm, ⟨6, _⟩ => ⟨S2048, .f32⟩
  | .hbm, ⟨7, _⟩ => ⟨S2048, .f32⟩
  | .hbm, ⟨8, _⟩ => ⟨S2048x512, .f32⟩
  | .hbm, ⟨9, _⟩ => ⟨S2048x512, .f32⟩
  | .hbm, ⟨10, _⟩ => ⟨S2048, .f32⟩
  | .hbm, ⟨11, _⟩ => ⟨S2048, .f32⟩
  | .hbm, ⟨12, _⟩ => ⟨S97x512, .f32⟩
  | .hbm, ⟨13, _⟩ => ⟨S97, .f32⟩
  | .hbm, ⟨14, _⟩ => ⟨S_, .i32⟩
  | .hbm, ⟨15, _⟩ => ⟨S256x8x32x512, .f32⟩
  | .hbm, ⟨16, _⟩ => ⟨S256x256x512, .f32⟩
  | .hbm, ⟨17, _⟩ => ⟨S256x256x512, .bf16⟩
  | .hbm, ⟨18, _⟩ => ⟨S32x256, .i32⟩
  | .hbm, ⟨19, _⟩ => ⟨S32x256x1, .i32⟩
  | .hbm, ⟨20, _⟩ => ⟨S128, .i32⟩
  | .hbm, ⟨21, _⟩ => ⟨S1x1x128, .i32⟩
  | .hbm, ⟨22, _⟩ => ⟨S32x256x128, .i32⟩
  | .hbm, ⟨23, _⟩ => ⟨S32x256x128, .i32⟩
  | .hbm, ⟨24, _⟩ => ⟨S32x256x128, .i1⟩
  | .hbm, ⟨25, _⟩ => ⟨S32x256x128, .bf16⟩
  | .hbm, ⟨26, _⟩ => ⟨S_, .f32⟩
  | .hbm, ⟨27, _⟩ => ⟨S128x512, .f32⟩
  | .hbm, ⟨28, _⟩ => ⟨S97x512, .f32⟩
  | .hbm, ⟨29, _⟩ => ⟨S_, .i32⟩
  | .hbm, ⟨30, _⟩ => ⟨S1, .i32⟩
  | .hbm, ⟨31, _⟩ => ⟨S128x512, .f32⟩
  | .hbm, ⟨32, _⟩ => ⟨S1x512, .f32⟩
  | .hbm, ⟨33, _⟩ => ⟨S128x512, .f32⟩
  | .hbm, ⟨34, _⟩ => ⟨S128x512, .f32⟩
  | .hbm, ⟨35, _⟩ => ⟨S128x512, .bf16⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S1x512x2048, .f32⟩
  | .hbm, ⟨41, _⟩ => ⟨S1x512x2048, .f32⟩
  | .hbm, ⟨42, _⟩ => ⟨S1x512x2048, .f32⟩
  | .hbm, ⟨43, _⟩ => ⟨S1x512x2048, .f32⟩
  | .hbm, ⟨44, _⟩ => ⟨S4x512x2048, .f32⟩
  | .hbm, ⟨45, _⟩ => ⟨S4x512x2048, .bf16⟩
  | .hbm, ⟨46, _⟩ => ⟨S2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S_, .f32⟩
  | .hbm, ⟨51, _⟩ => ⟨S512x128, .f32⟩
  | .hbm, ⟨52, _⟩ => ⟨S512x97, .f32⟩
  | .hbm, ⟨53, _⟩ => ⟨S_, .i32⟩
  | .hbm, ⟨54, _⟩ => ⟨S1, .i32⟩
  | .hbm, ⟨55, _⟩ => ⟨S512x128, .f32⟩
  | .hbm, ⟨56, _⟩ => ⟨S_, .f32⟩
  | .hbm, ⟨57, _⟩ => ⟨S1x128, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1x128, .f32⟩
  | .hbm, ⟨64, _⟩ => ⟨S32x256x128, .f32⟩
  | .hbm, ⟨65, _⟩ => ⟨S32x256x512, .f32⟩
  | .hbm, ⟨66, _⟩ => ⟨S32x256x256, .bf16⟩
  | .hbm, ⟨67, _⟩ => ⟨S256x32x128, .f32⟩
  | .hbm, ⟨68, _⟩ => ⟨S256x32x97, .f32⟩
  | .hbm, ⟨69, _⟩ => ⟨S256x32x512, .f32⟩
  | .hbm, ⟨70, _⟩ => ⟨S32x256x256, .f32⟩
  | .hbm, ⟨71, _⟩ => ⟨S256x32x256, .f32⟩
  | .hbm, ⟨72, _⟩ => ⟨S256x32x8x32, .f32⟩
  | .local _ .vmem, ⟨0, _⟩ => ⟨S32x128x128, .bf16⟩
  | .local _ .vmem, ⟨1, _⟩ => ⟨S32x128x128, .bf16⟩
  | .local _ .vmem, ⟨2, _⟩ => ⟨S128x512, .bf16⟩
  | .local _ .vmem, ⟨3, _⟩ => ⟨S1x2048, .f32⟩
  | .local _ .vmem, ⟨4, _⟩ => ⟨S1x2048, .f32⟩
  | .local _ .vmem, ⟨5, _⟩ => ⟨S512x128, .f32⟩
  | .local _ .vmem, ⟨6, _⟩ => ⟨S1x128, .f32⟩
  | .local _ .vmem, ⟨7, _⟩ => ⟨S128x256x512, .bf16⟩
  | .local _ .vmem, ⟨8, _⟩ => ⟨S4x512x2048, .bf16⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x256, .bf16⟩
  | .local _ .vmem, ⟨14, _⟩ => ⟨S32x128x128, .f32⟩
  | .local _ .vmem, ⟨15, _⟩ => ⟨S32x128x512, .f32⟩
  | .local _ .vmem, ⟨16, _⟩ => ⟨S32x128x256, .bf16⟩
  | _, _ => ⟨S256x512x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_c_1 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_c_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let arg0 : BitVec 32 := BitVec.ofNat 32 (i 0).val
  let c128_i32 : BitVec 32 := 128#32
  let v0 : BitVec 32 := Scalar.muli arg0 c128_i32
  let c0_i32 : BitVec 32 := 0#32
  let c0_i32_0 : BitVec 32 := 0#32
  ![v0.toNat, 0, 0]
@[reducible] def k0_t1_loop : Scf.Loop 32 :=
  let c0_i32_10 : BitVec 32 := 0#32
  let c32_i32 : BitVec 32 := 32#32
  let v16 : BitVec 32 := Scalar.addi c0_i32_10 c32_i32
  let c1_i32 : BitVec 32 := 1#32
  ⟨c0_i32_10, v16, c1_i32⟩
def k0_off2 (k0_t1 : Fin k0_t1_loop.trips) : Fin 3 → Nat :=
  let c0_i32_10 : BitVec 32 := 0#32
  let c1_i32 : BitVec 32 := 1#32
  let arg27 : BitVec 32 := Scf.iv c0_i32_10 c1_i32 k0_t1
  let v37 : Index := Scalar.indexCast arg27
  let c0_36 : Index := 0#32
  let c0_37 : Index := 0#32
  ![v37.toNat, 0, 0]
def k0_off3 (k0_t1 : Fin k0_t1_loop.trips) : Fin 3 → Nat :=
  let c0_i32_10 : BitVec 32 := 0#32
  let c1_i32 : BitVec 32 := 1#32
  let arg27 : BitVec 32 := Scf.iv c0_i32_10 c1_i32 k0_t1
  let v125 : Index := Scalar.indexCast arg27
  let c0_84 : Index := 0#32
  let c0_85 : Index := 0#32
  ![v125.toNat, 0, 0]
def k0_off4 (k0_t1 : Fin k0_t1_loop.trips) : Fin 3 → Nat :=
  let c0_i32_10 : BitVec 32 := 0#32
  let c1_i32 : BitVec 32 := 1#32
  let arg27 : BitVec 32 := Scf.iv c0_i32_10 c1_i32 k0_t1
  let v136 : Index := Scalar.indexCast arg27
  let c0_88 : Index := 0#32
  let c0_89 : Index := 0#32
  ![v136.toNat, 0, 0]
def k0_off5 (i : grid0.Coords) : Fin 3 → Nat :=
  let c0_i32_24 : BitVec 32 := 0#32
  let arg0 : BitVec 32 := BitVec.ofNat 32 (i 0).val
  let c128_i32_23 : BitVec 32 := 128#32
  let v30 : BitVec 32 := Scalar.muli arg0 c128_i32_23
  let c0_i32_25 : BitVec 32 := 0#32
  ![0, v30.toNat, 0]
def k0_off6 (i : grid0.Coords) : Fin 3 → Nat :=
  let c0_i32_26 : BitVec 32 := 0#32
  let arg0 : BitVec 32 := BitVec.ofNat 32 (i 0).val
  let c128_i32_23 : BitVec 32 := 128#32
  let v30 : BitVec 32 := Scalar.muli arg0 c128_i32_23
  let c0_i32_27 : BitVec 32 := 0#32
  ![0, v30.toNat, 0]
def k0_off7 (i : grid0.Coords) : Fin 3 → Nat :=
  let c0_i32_28 : BitVec 32 := 0#32
  let arg0 : BitVec 32 := BitVec.ofNat 32 (i 0).val
  let c128_i32_23 : BitVec 32 := 128#32
  let v30 : BitVec 32 := Scalar.muli arg0 c128_i32_23
  let c0_i32_29 : BitVec 32 := 0#32
  ![0, v30.toNat, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256x512x8x32 : Shape := ⟨4, ![256, 512, 8, 32]⟩
abbrev S256x32 : Shape := ⟨2, ![256, 32]⟩
abbrev S512x97 : Shape := ⟨2, ![512, 97]⟩
abbrev S512 : Shape := ⟨1, ![512]⟩
abbrev S2048x512 : Shape := ⟨2, ![2048, 512]⟩
abbrev S2048 : Shape := ⟨1, ![2048]⟩
abbrev S97x512 : Shape := ⟨2, ![97, 512]⟩
abbrev S97 : Shape := ⟨1, ![97]⟩
abbrev S_ : Shape := ⟨0, ![]⟩
abbrev S256x8x32x512 : Shape := ⟨4, ![256, 8, 32, 512]⟩
abbrev S256x256x512 : Shape := ⟨3, ![256, 256, 512]⟩
abbrev S256x512 : Shape := ⟨2, ![256, 512]⟩
abbrev S32x256 : Shape := ⟨2, ![32, 256]⟩
abbrev S32x256x512 : Shape := ⟨3, ![32, 256, 512]⟩
abbrev S32x256x256 : Shape := ⟨3, ![32, 256, 256]⟩
abbrev S1x256 : Shape := ⟨2, ![1, 256]⟩
abbrev S256 : Shape := ⟨1, ![256]⟩
abbrev S256x1 : Shape := ⟨2, ![256, 1]⟩
abbrev S1x512 : Shape := ⟨2, ![1, 512]⟩
abbrev S512x2048 : Shape := ⟨2, ![512, 2048]⟩
abbrev S256x2048 : Shape := ⟨2, ![256, 2048]⟩
abbrev S1x2048 : Shape := ⟨2, ![1, 2048]⟩
abbrev S256x256 : Shape := ⟨2, ![256, 256]⟩
abbrev S1x256x512 : Shape := ⟨3, ![1, 256, 512]⟩
abbrev S1x256x256 : Shape := ⟨3, ![1, 256, 256]⟩
abbrev S256x32x512 : Shape := ⟨3, ![256, 32, 512]⟩
abbrev S256x32x256 : Shape := ⟨3, ![256, 32, 256]⟩
abbrev S256x32x8x32 : Shape := ⟨4, ![256, 32, 8, 32]⟩
abbrev S256x32x97 : Shape := ⟨3, ![256, 32, 97]⟩
abbrev S1x1x97 : Shape := ⟨3, ![1, 1, 97]⟩

abbrev nBuf : Space → Nat
  | .hbm => 180
  | .vmem => 0
  | .smem => 0
  | _ => 0

abbrev hbmTy0_0 (i : Nat) : BufTy := match i % 128 with
  | 0 => ⟨S256x512x8x32, .f32⟩
  | 1 => ⟨S256x32, .i32⟩
  | 2 => ⟨S512x97, .f32⟩
  | 3 => ⟨S512, .f32⟩
  | 4 => ⟨S2048x512, .f32⟩
  | 5 => ⟨S2048x512, .f32⟩
  | 6 => ⟨S2048, .f32⟩
  | 7 => ⟨S2048, .f32⟩
  | 8 => ⟨S2048x512, .f32⟩
  | 9 => ⟨S2048x512, .f32⟩
  | 10 => ⟨S2048, .f32⟩
  | 11 => ⟨S2048, .f32⟩
  | 12 => ⟨S97x512, .f32⟩
  | 13 => ⟨S97, .f32⟩
  | 14 => ⟨S_, .i32⟩
  | 15 => ⟨S256x8x32x512, .f32⟩
  | 16 => ⟨S256x256x512, .f32⟩
  | 17 => ⟨S97x512, .f32⟩
  | 18 => ⟨S_, .f32⟩
  | 19 => ⟨S256x512, .f32⟩
  | 20 => ⟨S32x256, .i32⟩
  | 21 => ⟨S_, .f32⟩
  | 22 => ⟨S32x256x512, .f32⟩
  | 23 => ⟨S_, .f32⟩
  | 24 => ⟨S32x256x256, .f32⟩
  | 25 => ⟨S_, .i32⟩
  | 26 => ⟨S32x256, .i32⟩
  | 27 => ⟨S97x512, .f32⟩
  | 28 => ⟨S512, .f32⟩
  | 29 => ⟨S2048x512, .f32⟩
  | 30 => ⟨S2048x512, .f32⟩
  | 31 => ⟨S2048, .f32⟩
  | 32 => ⟨S2048, .f32⟩
  | 33 => ⟨S2048x512, .f32⟩
  | 34 => ⟨S2048x512, .f32⟩
  | 35 => ⟨S2048, .f32⟩
  | 36 => ⟨S2048, .f32⟩
  | 37 => ⟨S256x256x512, .f32⟩
  | 38 => ⟨S_, .i32⟩
  | 39 => ⟨S256x512, .f32⟩
  | 40 => ⟨S256x512, .f32⟩
  | 41 => ⟨S256x512, .f32⟩
  | 42 => ⟨S256x512, .f32⟩
  | 43 => ⟨S32x256x512, .f32⟩
  | 44 => ⟨S32x256x256, .f32⟩
  | 45 => ⟨S_, .i32⟩
  | 46 => ⟨S_, .i1⟩
  | 47 => ⟨S_, .i32⟩
  | 48 => ⟨S1x256, .i32⟩
  | 49 => ⟨S256, .i32⟩
  | 50 => ⟨S_, .i32⟩
  | 51 => ⟨S256, .i32⟩
  | 52 => ⟨S256, .i1⟩
  | 53 => ⟨S_, .i32⟩
  | 54 => ⟨S256, .i32⟩
  | 55 => ⟨S256, .i32⟩
  | 56 => ⟨S256, .i32⟩
  | 57 => ⟨S256x1, .i32⟩
  | 58 => ⟨S256x512, .f32⟩
  | 59 => ⟨S1x512, .f32⟩
  | 60 => ⟨S256x512, .f32⟩
  | 61 => ⟨S256x512, .f32⟩
  | 62 => ⟨S512x2048, .f32⟩
  | 63 => ⟨S256x2048, .f32⟩
  | 64 => ⟨S512x2048, .f32⟩
  | 65 => ⟨S256x2048, .f32⟩
  | 66 => ⟨S256x2048, .f32⟩
  | 67 => ⟨S1x2048, .f32⟩
  | 68 => ⟨S256x2048, .f32⟩
  | 69 => ⟨S256x2048, .f32⟩
  | 70 => ⟨S1x2048, .f32⟩
  | 71 => ⟨S256x2048, .f32⟩
  | 72 => ⟨S256x2048, .f32⟩
  | 73 => ⟨S256x512, .f32⟩
  | 74 => ⟨S256x512, .f32⟩
  | 75 => ⟨S256x512, .f32⟩
  | 76 => ⟨S256x512, .f32⟩
  | 77 => ⟨S256x512, .f32⟩
  | 78 => ⟨S256x512, .f32⟩
  | 79 => ⟨S_, .f32⟩
  | 80 => ⟨S256x512, .f32⟩
  | 81 => ⟨S256x512, .f32⟩
  | 82 => ⟨S_, .f32⟩
  | 83 => ⟨S256x512, .f32⟩
  | 84 => ⟨S256x512, .f32⟩
  | 85 => ⟨S256x512, .f32⟩
  | 86 => ⟨S256x512, .f32⟩
  | 87 => ⟨S256x512, .f32⟩
  | 88 => ⟨S_, .f32⟩
  | 89 => ⟨S256x512, .f32⟩
  | 90 => ⟨S256x512, .f32⟩
  | 91 => ⟨S_, .f32⟩
  | 92 => ⟨S256x512, .f32⟩
  | 93 => ⟨S256x512, .f32⟩
  | 94 => ⟨S256x512, .f32⟩
  | 95 => ⟨S256x512, .f32⟩
  | 96 => ⟨S256x512, .f32⟩
  | 97 => ⟨S256x512, .f32⟩
  | 98 => ⟨S256x512, .f32⟩
  | 99 => ⟨S_, .f32⟩
  | 100 => ⟨S256x512, .f32⟩
  | 101 => ⟨S256x512, .f32⟩
  | 102 => ⟨S_, .f32⟩
  | 103 => ⟨S256x512, .f32⟩
  | 104 => ⟨S256x512, .f32⟩
  | 105 => ⟨S256x512, .f32⟩
  | 106 => ⟨S256x512, .f32⟩
  | 107 => ⟨S512x2048, .f32⟩
  | 108 => ⟨S256x2048, .f32⟩
  | 109 => ⟨S512x2048, .f32⟩
  | 110 => ⟨S256x2048, .f32⟩
  | 111 => ⟨S256x2048, .f32⟩
  | 112 => ⟨S1x2048, .f32⟩
  | 113 => ⟨S256x2048, .f32⟩
  | 114 => ⟨S256x2048, .f32⟩
  | 115 => ⟨S1x2048, .f32⟩
  | 116 => ⟨S256x2048, .f32⟩
  | 117 => ⟨S256x2048, .f32⟩
  | 118 => ⟨S256x512, .f32⟩
  | 119 => ⟨S256x512, .f32⟩
  | 120 => ⟨S256x512, .f32⟩
  | 121 => ⟨S256x512, .f32⟩
  | 122 => ⟨S256x512, .f32⟩
  | 123 => ⟨S256x512, .f32⟩
  | 124 => ⟨S_, .f32⟩
  | 125 => ⟨S256x512, .f32⟩
  | 126 => ⟨S256x512, .f32⟩
  | 127 => ⟨S_, .f32⟩
  | _ => ⟨S256x512x8x32, .f32⟩

abbrev hbmTy0_1 (i : Nat) : BufTy := match i % 128 with
  | 0 => ⟨S256x512, .f32⟩
  | 1 => ⟨S256x512, .f32⟩
  | 2 => ⟨S256x512, .f32⟩
  | 3 => ⟨S256x512, .f32⟩
  | 4 => ⟨S256x512, .f32⟩
  | 5 => ⟨S_, .f32⟩
  | 6 => ⟨S256x512, .f32⟩
  | 7 => ⟨S256x512, .f32⟩
  | 8 => ⟨S_, .f32⟩
  | 9 => ⟨S256x512, .f32⟩
  | 10 => ⟨S256x512, .f32⟩
  | 11 => ⟨S256x512, .f32⟩
  | 12 => ⟨S256x512, .f32⟩
  | 13 => ⟨S256x512, .f32⟩
  | 14 => ⟨S256x512, .f32⟩
  | 15 => ⟨S256x512, .f32⟩
  | 16 => ⟨S_, .f32⟩
  | 17 => ⟨S256x512, .f32⟩
  | 18 => ⟨S256x512, .f32⟩
  | 19 => ⟨S_, .f32⟩
  | 20 => ⟨S256x512, .f32⟩
  | 21 => ⟨S256x512, .f32⟩
  | 22 => ⟨S256x512, .f32⟩
  | 23 => ⟨S256x512, .f32⟩
  | 24 => ⟨S256x256, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S256x512, .f32⟩
  | 34 => ⟨S1x256x512, .f32⟩
  | 35 => ⟨S_, .i32⟩
  | 36 => ⟨S_, .i32⟩
  | 37 => ⟨S32x256x512, .f32⟩
  | 38 => ⟨S1x256x256, .f32⟩
  | 39 => ⟨S_, .i32⟩
  | 40 => ⟨S_, .i32⟩
  | 41 => ⟨S32x256x256, .f32⟩
  | 42 => ⟨S_, .i32⟩
  | 43 => ⟨S_, .i32⟩
  | 44 => ⟨S256x32x512, .f32⟩
  | 45 => ⟨S256x32x256, .f32⟩
  | 46 => ⟨S256x32x8x32, .f32⟩
  | 47 => ⟨S512x97, .f32⟩
  | 48 => ⟨S256x32x97, .f32⟩
  | 49 => ⟨S1x1x97, .f32⟩
  | 50 => ⟨S256x32x97, .f32⟩
  | 51 => ⟨S256x32x97, .f32⟩
  | _ => ⟨S256x512x8x32, .f32⟩

abbrev hbmTy (i : Nat) : BufTy := match i / 128 with
  | 0 => hbmTy0_0 i
  | 1 => hbmTy0_1 i
  | _ => ⟨S256x512x8x32, .f32⟩

abbrev bufTy : (tb : Table) → Fin (tcTables nBuf tb) → BufTy
  | .hbm, ⟨i, _⟩ => hbmTy i
  | _, _ => ⟨S256x512x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_c : Ref sig .tc := ⟨.hbm, 25, rfl⟩
abbrev main_v7_0 : Ref sig .tc := ⟨.hbm, 26, rfl⟩
abbrev main_v7_1 : Ref sig .tc := ⟨.hbm, 27, rfl⟩
abbrev main_v7_2 : Ref sig .tc := ⟨.hbm, 28, rfl⟩
abbrev main_v7_3 : Ref sig .tc := ⟨.hbm, 29, rfl⟩
abbrev main_v7_4 : Ref sig .tc := ⟨.hbm, 30, rfl⟩
abbrev main_v7_5 : Ref sig .tc := ⟨.hbm, 31, rfl⟩
abbrev main_v7_6 : Ref sig .tc := ⟨.hbm, 32, rfl⟩
abbrev main_v7_7 : Ref sig .tc := ⟨.hbm, 33, rfl⟩
abbrev main_v7_8 : Ref sig .tc := ⟨.hbm, 34, rfl⟩
abbrev main_v7_9 : Ref sig .tc := ⟨.hbm, 35, rfl⟩
abbrev main_v7_10 : Ref sig .tc := ⟨.hbm, 36, rfl⟩
abbrev main_v7_11 : Ref sig .tc := ⟨.hbm, 37, rfl⟩
abbrev main_v7_12 : Ref sig .tc := ⟨.hbm, 38, rfl⟩
abbrev main_v7_13 : Ref sig .tc := ⟨.hbm, 39, rfl⟩
abbrev main_v7_14 : Ref sig .tc := ⟨.hbm, 40, rfl⟩
abbrev main_v7_15 : Ref sig .tc := ⟨.hbm, 41, rfl⟩
abbrev main_v7_16 : Ref sig .tc := ⟨.hbm, 42, rfl⟩
abbrev main_v7_17 : Ref sig .tc := ⟨.hbm, 43, rfl⟩
abbrev main_v7_18 : Ref sig .tc := ⟨.hbm, 44, rfl⟩
abbrev main_while0c_c_20 : Ref sig .tc := ⟨.hbm, 45, rfl⟩
abbrev main_while0c_v16 : Ref sig .tc := ⟨.hbm, 46, rfl⟩
abbrev main_while0b_call0_c : Ref sig .tc := ⟨.hbm, 47, rfl⟩
abbrev main_while0b_call0_v0 : Ref sig .tc := ⟨.hbm, 48, rfl⟩
abbrev main_while0b_v16 : Ref sig .tc := ⟨.hbm, 49, rfl⟩
abbrev main_while0b_c_20 : Ref sig .tc := ⟨.hbm, 50, rfl⟩
abbrev main_while0b_v17 : Ref sig .tc := ⟨.hbm, 51, rfl⟩
abbrev main_while0b_v18 : Ref sig .tc := ⟨.hbm, 52, rfl⟩
abbrev main_while0b_c_21 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_cst_22 : Ref sig .tc := ⟨.hbm, 79, rfl⟩
abbrev main_while0b_v44 : Ref sig .tc := ⟨.hbm, 80, rfl⟩
abbrev main_while0b_v45 : Ref sig .tc := ⟨.hbm, 81, rfl⟩
abbrev main_while0b_cst_23 : Ref sig .tc := ⟨.hbm, 82, rfl⟩
abbrev main_while0b_v46 : Ref sig .tc := ⟨.hbm, 83, rfl⟩
abbrev main_while0b_v47 : Ref sig .tc := ⟨.hbm, 84, rfl⟩
abbrev main_while0b_v48 : Ref sig .tc := ⟨.hbm, 85, rfl⟩
abbrev main_while0b_v49 : Ref sig .tc := ⟨.hbm, 86, rfl⟩
abbrev main_while0b_v50 : Ref sig .tc := ⟨.hbm, 87, rfl⟩
abbrev main_while0b_cst_24 : Ref sig .tc := ⟨.hbm, 88, rfl⟩
abbrev main_while0b_v51 : Ref sig .tc := ⟨.hbm, 89, rfl⟩
abbrev main_while0b_v52 : Ref sig .tc := ⟨.hbm, 90, rfl⟩
abbrev main_while0b_cst_25 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_v57 : Ref sig .tc := ⟨.hbm, 96, rfl⟩
abbrev main_while0b_v58 : Ref sig .tc := ⟨.hbm, 97, rfl⟩
abbrev main_while0b_v59 : Ref sig .tc := ⟨.hbm, 98, rfl⟩
abbrev main_while0b_cst_26 : Ref sig .tc := ⟨.hbm, 99, rfl⟩
abbrev main_while0b_v60 : Ref sig .tc := ⟨.hbm, 100, rfl⟩
abbrev main_while0b_v61 : Ref sig .tc := ⟨.hbm, 101, rfl⟩
abbrev main_while0b_cst_27 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_cst_28 : Ref sig .tc := ⟨.hbm, 124, rfl⟩
abbrev main_while0b_v83 : Ref sig .tc := ⟨.hbm, 125, rfl⟩
abbrev main_while0b_v84 : Ref sig .tc := ⟨.hbm, 126, rfl⟩
abbrev main_while0b_cst_29 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_v88 : Ref sig .tc := ⟨.hbm, 131, rfl⟩
abbrev main_while0b_v89 : Ref sig .tc := ⟨.hbm, 132, rfl⟩
abbrev main_while0b_cst_30 : Ref sig .tc := ⟨.hbm, 133, rfl⟩
abbrev main_while0b_v90 : Ref sig .tc := ⟨.hbm, 134, rfl⟩
abbrev main_while0b_v91 : Ref sig .tc := ⟨.hbm, 135, rfl⟩
abbrev main_while0b_cst_31 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_v97 : Ref sig .tc := ⟨.hbm, 142, rfl⟩
abbrev main_while0b_v98 : Ref sig .tc := ⟨.hbm, 143, rfl⟩
abbrev main_while0b_cst_32 : Ref sig .tc := ⟨.hbm, 144, rfl⟩
abbrev main_while0b_v99 : Ref sig .tc := ⟨.hbm, 145, rfl⟩
abbrev main_while0b_v100 : Ref sig .tc := ⟨.hbm, 146, rfl⟩
abbrev main_while0b_cst_33 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_cst_34 : Ref sig .tc := ⟨.hbm, 155, rfl⟩
abbrev main_while0b_v108 : Ref sig .tc := ⟨.hbm, 156, rfl⟩
abbrev main_while0b_v109 : Ref sig .tc := ⟨.hbm, 157, rfl⟩
abbrev main_while0b_cst_35 : Ref sig .tc := ⟨.hbm, 158, rfl⟩
abbrev main_while0b_v110 : Ref sig .tc := ⟨.hbm, 159, rfl⟩
abbrev main_while0b_v111 : Ref sig .tc := ⟨.hbm, 160, rfl⟩
abbrev main_while0b_v112 : Ref sig .tc := ⟨.hbm, 161, rfl⟩
abbrev main_while0b_call1_v0 : Ref sig .tc := ⟨.hbm, 162, rfl⟩
abbrev main_while0b_call1_c : Ref sig .tc := ⟨.hbm, 163, rfl⟩
abbrev main_while0b_call1_c_0 : Ref sig .tc := ⟨.hbm, 164, rfl⟩
abbrev main_while0b_v113 : Ref sig .tc := ⟨.hbm, 165, rfl⟩
abbrev main_while0b_call2_v0 : Ref sig .tc := ⟨.hbm, 166, rfl⟩
abbrev main_while0b_call2_c : Ref sig .tc := ⟨.hbm, 167, rfl⟩
abbrev main_while0b_call2_c_0 : Ref sig .tc := ⟨.hbm, 168, rfl⟩
abbrev main_while0b_v114 : Ref sig .tc := ⟨.hbm, 169, rfl⟩
abbrev main_while0b_c_36 : Ref sig .tc := ⟨.hbm, 170, rfl⟩
abbrev main_while0b_v115 : Ref sig .tc := ⟨.hbm, 171, rfl⟩
abbrev main_v8 : Ref sig .tc := ⟨.hbm, 172, rfl⟩
abbrev main_v9 : Ref sig .tc := ⟨.hbm, 173, rfl⟩
abbrev main_v10 : Ref sig .tc := ⟨.hbm, 174, rfl⟩
abbrev main_v11 : Ref sig .tc := ⟨.hbm, 175, rfl⟩
abbrev main_v12 : Ref sig .tc := ⟨.hbm, 176, rfl⟩
abbrev main_v13 : Ref sig .tc := ⟨.hbm, 177, rfl⟩
abbrev main_v14 : Ref sig .tc := ⟨.hbm, 178, rfl⟩
abbrev main_v15 : Ref sig .tc := ⟨.hbm, 179, rfl⟩

abbrev nD : Nat := 1
abbrev τ : Topo := Topo.v7x

variable {F : FTy → Type} [FloatOps F]

abbrev main_while0_count : Scf.Loop 32 := ⟨0#32, 32#32, 1#32⟩
-- ==== Proof.Trip.lean ====
/-
  Hand-written, untrusted. One trip of the decoder's loop: what it leaves in the four state buffers, in the scratch of the
  attention scores and in row `k` of the two row buffers, as values of what the buffers held before it.
-/
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Tactic
public import Idealize.ShloMosaic.Lib.Transfers
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The values -/

/-- What the loop reads and never writes: the one-hot rows, the embedding table, the two bias rows, the weights and the
    feature map of the block. -/
structure Inp (F : FTy → Type) where
  oh : Vec F S32x128x128 .bf16
  em : Vec F S128x512 .bf16
  b0 : Vec F S1x2048 .f32
  b1 : Vec F S1x2048 .f32
  w : Vec F S4x512x2048 .bf16
  fm : Vec F S128x256x512 .bf16

/-- The state carried from trip to trip. -/
structure St (F : FTy → Type) where
  h0 : Vec F S128x512 .f32
  c0 : Vec F S128x512 .f32
  h1 : Vec F S128x512 .f32
  c1 : Vec F S128x512 .f32

/-- Row `k` of the one-hot rows. -/
def ohRow (X : Inp F) (k : Fin k0_t1_loop.trips) : Vec F S1x128x128 .bf16 :=
  View.ld (Val := Elt F) (e' := .bf16) X.oh (Rect.unit (s := S32x128x128) (k0_off2 k) S1x128x128.size (k0_off2_inb k))

/-- Matrix `0`, `1`, `2`, `3` of the weights. -/
def w0 (X : Inp F) : Vec F S1x512x2048 .bf16 :=
  View.ld (Val := Elt F) (e' := .bf16) X.w (Rect.unit (s := S4x512x2048) ![0, 0, 0] S1x512x2048.size inb_S4x512x2048_S1x512x2048_0_0_0)
def w1 (X : Inp F) : Vec F S1x512x2048 .bf16 :=
  View.ld (Val := Elt F) (e' := .bf16) X.w (Rect.unit (s := S4x512x2048) ![1, 0, 0] S1x512x2048.size inb_S4x512x2048_S1x512x2048_1_0_0)
def w2 (X : Inp F) : Vec F S1x512x2048 .bf16 :=
  View.ld (Val := Elt F) (e' := .bf16) X.w (Rect.unit (s := S4x512x2048) ![2, 0, 0] S1x512x2048.size inb_S4x512x2048_S1x512x2048_2_0_0)
def w3 (X : Inp F) : Vec F S1x512x2048 .bf16 :=
  View.ld (Val := Elt F) (e' := .bf16) X.w (Rect.unit (s := S4x512x2048) ![3, 0, 0] S1x512x2048.size inb_S4x512x2048_S1x512x2048_3_0_0)

/-- The hidden and the cell state of the first layer after a trip, before they are stored. -/
def newH0 (X : Inp F) (k : Fin k0_t1_loop.trips) (s : St F) : FVec F S128x512 .f32 :=
  k0_pay4 (ohRow X k) X.em s.h0 s.c0 (w0 X) (w1 X) X.b0
def newC0 (X : Inp F) (k : Fin k0_t1_loop.trips) (s : St F) : FVec F S128x512 .f32 :=
  k0_pay3 (ohRow X k) X.em s.h0 s.c0 (w0 X) (w1 X) X.b0

/-- The state after trip `k`. -/
def next (X : Inp F) (k : Fin k0_t1_loop.trips) (s : St F) : St F where
  h0 := k0_pay5 (ohRow X k) X.em s.h0 s.c0 (w0 X) (w1 X) X.b0
  c0 := k0_pay6 (newC0 X k s)
  h1 := k0_pay9 (newH0 X k s) s.h1 s.c1 (w2 X) (w3 X) X.b1
  c1 := k0_pay10 (newH0 X k s) s.h1 s.c1 (w2 X) (w3 X) X.b1

/-- The attention scores trip `k` leaves, from the second layer's hidden state after the trip. -/
def attOf (X : Inp F) (s' : St F) : Vec F S128x256 .bf16 := k0_pay16 s'.h1 X.fm

/-- The rows trip `k` stores, from the state after it. -/
def maskRow (X : Inp F) (s' : St F) : FVec F S1x128x256 .bf16 := k0_pay18 (attOf X s')
def ctxRow (X : Inp F) (s' : St F) : FVec F S1x128x512 .f32 := k0_pay19 X.fm (attOf X s')

/-! ## The operands -/

abbrev fmH : Memref sig .tc .hbm S256x256x512 .bf16 := Memref.whole main_v2
abbrev wH : Memref sig .tc .hbm S4x512x2048 .bf16 := Memref.whole main_v28
abbrev o0 : Memref sig .tc .hbm S32x256x128 .f32 := Memref.whole main_v42_0
abbrev o1 : Memref sig .tc .hbm S32x256x512 .f32 := Memref.whole main_v42_1
abbrev o2 : Memref sig .tc .hbm S32x256x256 .bf16 := Memref.whole main_v42_2
abbrev fmV : Memref sig .tc .vmem S128x256x512 .bf16 := Memref.whole cc0_scratch0
abbrev wV : Memref sig .tc .vmem S4x512x2048 .bf16 := Memref.whole cc0_scratch1
abbrev h0V : Memref sig .tc .vmem S128x512 .f32 := Memref.whole cc0_scratch2
abbrev c0V : Memref sig .tc .vmem S128x512 .f32 := Memref.whole cc0_scratch3
abbrev h1V : Memref sig .tc .vmem S128x512 .f32 := Memref.whole cc0_scratch4
abbrev c1V : Memref sig .tc .vmem S128x512 .f32 := Memref.whole cc0_scratch5
abbrev atV : Memref sig .tc .vmem S128x256 .bf16 := Memref.whole cc0_scratch6
abbrev gV : Memref sig .tc .vmem S32x128x128 .f32 := Memref.whole cc0_scratch7
abbrev cxV : Memref sig .tc .vmem S32x128x512 .f32 := Memref.whole cc0_scratch8
abbrev mkV : Memref sig .tc .vmem S32x128x256 .bf16 := Memref.whole cc0_scratch9

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The loop's region at the operands the pipeline passes. -/
abbrev region (i : grid0.Coords) (a3 : Memref sig .tc .vmem S32x128x128 .bf16) (h3 : a3.IsWhole) (a4 : Memref sig .tc .vmem S128x512 .bf16) (h4 : a4.IsWhole)
    (a5 : Memref sig .tc .vmem S1x2048 .f32) (h5 : a5.IsWhole) (a6 : Memref sig .tc .vmem S1x2048 .f32) (h6 : a6.IsWhole)
    (a7 : Memref sig .tc .vmem S512x128 .f32) (h7 : a7.IsWhole) (a8 : Memref sig .tc .vmem S1x128 .f32) (h8 : a8.IsWhole) :
    Fin k0_t1_loop.trips → Unit → Prog (TpuEff nD τ sig (Elt F) Λ₀ .tc) Unit :=
  k0_t1_body (F := F) i fmH (Memref.isWhole_whole _) wH (Memref.isWhole_whole _) a3 h3 a4 h4 a5 h5 a6 h6 a7 h7 a8 h8
    o0 (Memref.isWhole_whole _) o1 (Memref.isWhole_whole _) o2 (Memref.isWhole_whole _)
    fmV (Memref.isWhole_whole _) wV (Memref.isWhole_whole _) h0V (Memref.isWhole_whole _) c0V (Memref.isWhole_whole _)
    h1V (Memref.isWhole_whole _) c1V (Memref.isWhole_whole _) atV (Memref.isWhole_whole _) gV (Memref.isWhole_whole _)
    cxV (Memref.isWhole_whole _) mkV (Memref.isWhole_whole _) cc0_scratch10 cc0_scratch11 cc0_scratch12 cc0_scratch13 cc0_scratch14

/-- What the loop only reads, held at contents that read as `X`. -/
def readers (c : Dev nD) (X : Inp F) (a3 : Memref sig .tc .vmem S32x128x128 .bf16) (a4 : Memref sig .tc .vmem S128x512 .bf16)
    (a5 : Memref sig .tc .vmem S1x2048 .f32) (a6 : Memref sig .tc .vmem S1x2048 .f32) : sProp 𝕄 :=
  iprop(owns (c : Thread nD τ) a3 fullShare X.oh ∗ owns (c : Thread nD τ) a4 fullShare X.em
    ∗ owns (c : Thread nD τ) a5 fullShare X.b0 ∗ owns (c : Thread nD τ) a6 fullShare X.b1
    ∗ (∃ f, pt c wV f ∗ ⌜wV.view.read (Elt F) f = X.w⌝) ∗ (∃ f, pt c fmV f ∗ ⌜fmV.view.read (Elt F) f = X.fm⌝))

/-- The four state buffers held at contents that read as `s`. -/
def holds (c : Dev nD) (s : St F) : sProp 𝕄 :=
  iprop((∃ f, pt c h0V f ∗ ⌜h0V.view.read (Elt F) f = s.h0⌝) ∗ (∃ f, pt c c0V f ∗ ⌜c0V.view.read (Elt F) f = s.c0⌝)
    ∗ (∃ f, pt c h1V f ∗ ⌜h1V.view.read (Elt F) f = s.h1⌝) ∗ (∃ f, pt c c1V f ∗ ⌜c1V.view.read (Elt F) f = s.c1⌝))

set_option maxHeartbeats 2000000 in
/-- One trip: the state advances by `next`, row `k` of the two row buffers is put. -/
theorem trip (c : Dev nD) (i : grid0.Coords) (X : Inp F) (s : St F) (k : Fin k0_t1_loop.trips)
    (a3 : Memref sig .tc .vmem S32x128x128 .bf16) (h3 : a3.IsWhole) (a4 : Memref sig .tc .vmem S128x512 .bf16) (h4 : a4.IsWhole)
    (a5 : Memref sig .tc .vmem S1x2048 .f32) (h5 : a5.IsWhole) (a6 : Memref sig .tc .vmem S1x2048 .f32) (h6 : a6.IsWhole)
    (a7 : Memref sig .tc .vmem S512x128 .f32) (h7 : a7.IsWhole) (a8 : Memref sig .tc .vmem S1x128 .f32) (h8 : a8.IsWhole)
    (fc : Buf (Elt F) (cxV.view.loc (c : Thread nD τ))) (fk : Buf (Elt F) (mkV.view.loc (c : Thread nD τ))) :
    iprop(readers c X a3 a4 a5 a6 ∗ holds c s ∗ (∃ f, pt c atV f) ∗ pt c cxV fc ∗ pt c mkV fk)
      ⊢ wp frame (wpE (defs₀ (F := F)) Variants.none c none) Set.univ (region i a3 h3 a4 h4 a5 h5 a6 h6 a7 h7 a8 h8 k ())
          (fun _ => iprop(readers c X a3 a4 a5 a6 ∗ holds c (next X k s) ∗ (∃ f, pt c atV f)
            ∗ (∃ f, pt c cxV f ∗ ⌜cxV.view.read (Elt F) f = VecWindow.put (cxV.view.read (Elt F) fc) (k0_off4 k) S1x128x512.size (ctxRow X (next X k s))⌝)
            ∗ (∃ f, pt c mkV f ∗ ⌜mkV.view.read (Elt F) f = VecWindow.put (mkV.view.read (Elt F) fk) (k0_off3 k) S1x128x256.size (maskRow X (next X k s))⌝))) := by
  unfold readers holds owns region k0_t1_body
  simp only [k0_part1_eq_skeleton, k0_part2_eq_skeleton]
  unfold k0_part1_skel k0_part2_skel
  iintro ⟨⟨⟨%f3, %e3, H3⟩, ⟨%f4, %e4, H4⟩, ⟨%f5, %e5, H5⟩, ⟨%f6, %e6, H6⟩, ⟨%fw, Hw, %ew⟩, ⟨%ff, Hf, %ef⟩⟩, ⟨⟨%g0, G0, %d0⟩, ⟨%g1, G1, %d1⟩, ⟨%g2, G2, %d2⟩, ⟨%g3, G3, %d3⟩⟩, ⟨%fa, Ha⟩, Hc, Hk⟩
  sl_exec
  sl_step
  have r3 : a3.view.readAt (Elt F) (Rect.unit (s := S32x128x128) (k0_off2 k) S1x128x128.size (k0_off2_inb k)).toLoadRect f3 = ohRow X k := by
    unfold ohRow; rw [← e3]; rfl
  have r4 : a4.view.readAt (Elt F) (Rect.unit (s := S128x512) ![0, 0] S128x512.size inb_S128x512_S128x512_0_0).toLoadRect f4 = X.em :=
    (View.readAt_full a4.view f4 _).trans e4
  have r5 : a5.view.readAt (Elt F) (Rect.unit (s := S1x2048) ![0, 0] S1x2048.size inb_S1x2048_S1x2048_0_0).toLoadRect f5 = X.b0 :=
    (View.readAt_full a5.view f5 _).trans e5
  have r6 : a6.view.readAt (Elt F) (Rect.unit (s := S1x2048) ![0, 0] S1x2048.size inb_S1x2048_S1x2048_0_0).toLoadRect f6 = X.b1 :=
    (View.readAt_full a6.view f6 _).trans e6
  have rf : fmV.view.readAt (Elt F) (Rect.unit (s := S128x256x512) ![0, 0, 0] S128x256x512.size inb_S128x256x512_S128x256x512_0_0_0).toLoadRect ff = X.fm :=
    (View.readAt_full fmV.view ff _).trans ef
  have q0 : h0V.view.readAt (Elt F) (Rect.unit (s := S128x512) ![0, 0] S128x512.size inb_S128x512_S128x512_0_0).toLoadRect g0 = s.h0 :=
    (View.readAt_full h0V.view g0 _).trans d0
  have q1 : c0V.view.readAt (Elt F) (Rect.unit (s := S128x512) ![0, 0] S128x512.size inb_S128x512_S128x512_0_0).toLoadRect g1 = s.c0 :=
    (View.readAt_full c0V.view g1 _).trans d1
  have q2 : h1V.view.readAt (Elt F) (Rect.unit (s := S128x512) ![0, 0] S128x512.size inb_S128x512_S128x512_0_0).toLoadRect g2 = s.h1 :=
    (View.readAt_full h1V.view g2 _).trans d2
  have q3 : c1V.view.readAt (Elt F) (Rect.unit (s := S128x512) ![0, 0] S128x512.size inb_S128x512_S128x512_0_0).toLoadRect g3 = s.c1 :=
    (View.readAt_full c1V.view g3 _).trans d3
  have m0 : wV.view.readAt (Elt F) (Rect.unit (s := S4x512x2048) ![0, 0, 0] S1x512x2048.size inb_S4x512x2048_S1x512x2048_0_0_0).toLoadRect fw = w0 X := by
    unfold w0; rw [← ew]; rfl
  have m1 : wV.view.readAt (Elt F) (Rect.unit (s := S4x512x2048) ![1, 0, 0] S1x512x2048.size inb_S4x512x2048_S1x512x2048_1_0_0).toLoadRect fw = w1 X := by
    unfold w1; rw [← ew]; rfl
  have m2 : wV.view.readAt (Elt F) (Rect.unit (s := S4x512x2048) ![2, 0, 0] S1x512x2048.size inb_S4x512x2048_S1x512x2048_2_0_0).toLoadRect fw = w2 X := by
    unfold w2; rw [← ew]; rfl
  have m3 : wV.view.readAt (Elt F) (Rect.unit (s := S4x512x2048) ![3, 0, 0] S1x512x2048.size inb_S4x512x2048_S1x512x2048_3_0_0).toLoadRect fw = w3 X := by
    unfold w3; rw [← ew]; rfl
  have eA : trip.sl.v121 c k a3 a4 a5 a6 f3 f4 f5 f6 fw ff g0 g1 g2 g3 = attOf X (next X k s) := by
    unfold trip.sl.v121 trip.sl.Ha_1
    rw [View.readCov_full]
    unfold trip.sl.v111 trip.sl.G2_1
    rw [View.readCov_full, r3, r4, r5, r6, q0, q1, q2, q3, m0, m1, m2, m3, rf]
    rfl
  isplitl [H3 H4 H5 H6 Hw Hf]
  · isplitl [H3]; · iexists _; isplitr; swap; · iexact H3
                    ipureintro; exact e3
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [Hw]; · iexists _; isplitl; · iexact Hw
                    ipureintro; exact ew
    iexists _; isplitl; · iexact Hf
    ipureintro; exact ef
  isplitl [G0 G1 G2 G3]
  · isplitl [G0]
    · iexists _; isplitl; · iexact G0
      ipureintro
      show h0V.view.read (Elt F) _ = _
      rw [View.read_writes_full, r3, r4, r5, q0, q1, m0, m1]; rfl
    isplitl [G1]
    · iexists _; isplitl; · iexact G1
      ipureintro
      show c0V.view.read (Elt F) _ = _
      rw [View.read_writes_full, r3, r4, r5, q0, q1, m0, m1]; rfl
    isplitl [G2]
    · iexists _; isplitl; · iexact G2
      ipureintro
      show h1V.view.read (Elt F) _ = _
      unfold trip.sl.G2_1
      rw [View.read_writes_full, r3, r4, r5, r6, q0, q1, q2, q3, m0, m1, m2, m3]; rfl
    iexists _; isplitl; · iexact G3
    ipureintro
    show c1V.view.read (Elt F) _ = _
    rw [View.read_writes_full, r3, r4, r5, r6, q0, q1, q2, q3, m0, m1, m2, m3]; rfl
  isplitl [Ha]; · iexists _; iexact Ha
  isplitl [Hc]
  · iexists _; isplitl; · iexact Hc
    ipureintro
    show cxV.view.read (Elt F) _ = _
    rw [View.read_writes_cons_put _ _ _ _ _ rfl, eA]
    have rf' := rf
    erw [rf']; rfl
  iexists _; isplitl; · iexact Hk
  ipureintro
  show mkV.view.read (Elt F) _ = _
  rw [View.read_writes_cons_put _ _ _ _ _ rfl, eA]; rfl

end Cert.KernelIdeal.Hand

end
-- ==== Proof.Body.lean ====
/-
  Hand-written, untrusted. The kernel's body at a grid point: the loop by its invariant, the whole row buffers as values, and
  what the three copies out leave in the results.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The loop -/

/-- The state before trip `n`. -/
def stAt (X : Inp F) : ℕ → St F
  | 0 => ⟨k0_pay12, k0_pay13, k0_pay14, k0_pay15⟩
  | n + 1 => if h : n < k0_t1_loop.trips then next X ⟨n, h⟩ (stAt X n) else stAt X n

theorem stAt_succ (X : Inp F) (k : Fin k0_t1_loop.trips) : stAt X (k.val + 1) = next X k (stAt X k.val) := by
  rw [stAt, dif_pos k.isLt]

/-- The rows before `n` of the context buffer, of the mask buffer. -/
def CtxRows (X : Inp F) (n : ℕ) (v : Vec F S32x128x512 .f32) : Prop :=
  ∀ j : Fin k0_t1_loop.trips, j.val < n → VecWindow.window v (k0_off4 j) S1x128x512.size (k0_off4_inb j) = ctxRow X (stAt X (j.val + 1))
def MaskRows (X : Inp F) (n : ℕ) (v : Vec F S32x128x256 .bf16) : Prop :=
  ∀ j : Fin k0_t1_loop.trips, j.val < n → VecWindow.window v (k0_off3 j) S1x128x256.size (k0_off3_inb j) = maskRow X (stAt X (j.val + 1))

theorem CtxRows.put {X : Inp F} {k : Fin k0_t1_loop.trips} {v : Vec F S32x128x512 .f32} (h : CtxRows X k.val v) :
    CtxRows X (k.val + 1) (VecWindow.put v (k0_off4 k) S1x128x512.size (ctxRow X (next X k (stAt X k.val)))) := by
  intro j hj
  by_cases e : j = k
  · subst e; rw [VecWindow.window_put_same, stAt_succ]
  · have hne : j.val ≠ k.val := fun h => e (Fin.ext h)
    rw [VecWindow.window_put_of_disjoint _ _ _ _ _ _ _ 0 ?_]
    · exact h j (by omega)
    · rw [k0_off4_eq, k0_off4_eq]
      show j.val + 1 ≤ k.val ∨ k.val + 1 ≤ j.val
      omega

theorem MaskRows.put {X : Inp F} {k : Fin k0_t1_loop.trips} {v : Vec F S32x128x256 .bf16} (h : MaskRows X k.val v) :
    MaskRows X (k.val + 1) (VecWindow.put v (k0_off3 k) S1x128x256.size (maskRow X (next X k (stAt X k.val)))) := by
  intro j hj
  by_cases e : j = k
  · subst e; rw [VecWindow.window_put_same, stAt_succ]
  · have hne : j.val ≠ k.val := fun h => e (Fin.ext h)
    rw [VecWindow.window_put_of_disjoint _ _ _ _ _ _ _ 0 ?_]
    · exact h j (by omega)
    · rw [k0_off3_eq, k0_off3_eq]
      show j.val + 1 ≤ k.val ∨ k.val + 1 ≤ j.val
      omega

theorem trips_eq : k0_t1_loop.trips = 32 := by decide

/-- Row `0`'s index of the one-row shapes. -/
def ixC (y : S32x128x512.Idx) : S1x128x512.Idx := fun a => match a with
  | ⟨0, _⟩ => (0 : Fin 1)
  | ⟨1, _⟩ => y 1
  | ⟨2, _⟩ => y 2
def ixM (y : S32x128x256.Idx) : S1x128x256.Idx := fun a => match a with
  | ⟨0, _⟩ => (0 : Fin 1)
  | ⟨1, _⟩ => y 1
  | ⟨2, _⟩ => y 2

/-- The whole row buffers after the loop. -/
def ctxAll (X : Inp F) : Vec F S32x128x512 .f32 := fun y => ctxRow X (stAt X ((y 0).val + 1)) (ixC y)
def maskAll (X : Inp F) : Vec F S32x128x256 .bf16 := fun y => maskRow X (stAt X ((y 0).val + 1)) (ixM y)

theorem CtxRows.all {X : Inp F} {v : Vec F S32x128x512 .f32} (h : CtxRows X k0_t1_loop.trips v) : v = ctxAll X := by
  funext y
  have hy : (y 0).val < k0_t1_loop.trips := by rw [trips_eq]; exact (y 0).isLt
  have := congrFun (h ⟨(y 0).val, hy⟩ hy) (ixC y)
  unfold ctxAll
  rw [← this]
  refine congrArg v (funext fun a => Fin.ext ?_)
  refine Eq.trans ?_ (congrArg (· + 1 * (ixC y a).val) (congrFun (k0_off4_eq ⟨(y 0).val, hy⟩) a).symm)
  fin_cases a
  · show (y 0).val = (y 0).val + 1 * 0; omega
  · show (y 1).val = 0 + 1 * (y 1).val; omega
  · show (y 2).val = 0 + 1 * (y 2).val; omega

theorem MaskRows.all {X : Inp F} {v : Vec F S32x128x256 .bf16} (h : MaskRows X k0_t1_loop.trips v) : v = maskAll X := by
  funext y
  have hy : (y 0).val < k0_t1_loop.trips := by rw [trips_eq]; exact (y 0).isLt
  have := congrFun (h ⟨(y 0).val, hy⟩ hy) (ixM y)
  unfold maskAll
  rw [← this]
  refine congrArg v (funext fun a => Fin.ext ?_)
  refine Eq.trans ?_ (congrArg (· + 1 * (ixM y a).val) (congrFun (k0_off3_eq ⟨(y 0).val, hy⟩) a).symm)
  fin_cases a
  · show (y 0).val = (y 0).val + 1 * 0; omega
  · show (y 1).val = 0 + 1 * (y 1).val; omega
  · show (y 2).val = 0 + 1 * (y 2).val; omega

/-- The loop's invariant before trip `n`. -/
def inv (c : Dev nD) (X : Inp F) (a3 : Memref sig .tc .vmem S32x128x128 .bf16) (a4 : Memref sig .tc .vmem S128x512 .bf16)
    (a5 : Memref sig .tc .vmem S1x2048 .f32) (a6 : Memref sig .tc .vmem S1x2048 .f32) (n : ℕ) (_ : Unit) : sProp 𝕄 :=
  iprop(readers c X a3 a4 a5 a6 ∗ holds c (stAt X n) ∗ (∃ f, pt c atV f)
    ∗ (∃ f, pt c cxV f ∗ ⌜CtxRows X n (cxV.view.read (Elt F) f)⌝) ∗ (∃ f, pt c mkV f ∗ ⌜MaskRows X n (mkV.view.read (Elt F) f)⌝))

/-- The classifier's scores of the whole block. -/
def gAll (X : Inp F) (gw : Vec F S512x128 .f32) (gb : Vec F S1x128 .f32) : FVec F S32x128x128 .f32 :=
  k0_pay1 (k0_pay20 (ctxAll X) gw) (k0_pay21 gb)

/-- The block of the feature map at a grid point. -/
def fmBlk (v : Vec F S256x256x512 .bf16) (i : grid0.Coords) : Vec F S128x256x512 .bf16 :=
  VecWindow.window v (k0_off1 i) S128x256x512.size (k0_off1_inb i)

/-- The scratch buffers, held at anything, and the kernel's own cells at zero. -/
def scratch (c : Dev nD) : sProp 𝕄 :=
  iprop((∃ f, pt c fmV f) ∗ (∃ f, pt c wV f) ∗ (∃ f, pt c h0V f) ∗ (∃ f, pt c c0V f) ∗ (∃ f, pt c h1V f) ∗ (∃ f, pt c c1V f)
    ∗ (∃ f, pt c atV f) ∗ (∃ f, pt c gV f) ∗ (∃ f, pt c cxV f) ∗ (∃ f, pt c mkV f))
def cells (c : Dev nD) : sProp 𝕄 :=
  iprop(semVal ((c : Thread nD τ), SemLoc.dma 7) 0 ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0)

/-- The windows, held at `X`'s values and the classifier's. -/
def wins (c : Dev nD) (oh : Vec F S32x128x128 .bf16) (em : Vec F S128x512 .bf16) (b0 b1 : Vec F S1x2048 .f32) (gw : Vec F S512x128 .f32) (gb : Vec F S1x128 .f32)
    (a3 : Memref sig .tc .vmem S32x128x128 .bf16) (a4 : Memref sig .tc .vmem S128x512 .bf16)
    (a5 : Memref sig .tc .vmem S1x2048 .f32) (a6 : Memref sig .tc .vmem S1x2048 .f32) (a7 : Memref sig .tc .vmem S512x128 .f32) (a8 : Memref sig .tc .vmem S1x128 .f32) : sProp 𝕄 :=
  iprop(owns (c : Thread nD τ) a3 fullShare oh ∗ owns (c : Thread nD τ) a4 fullShare em ∗ owns (c : Thread nD τ) a5 fullShare b0
    ∗ owns (c : Thread nD τ) a6 fullShare b1 ∗ owns (c : Thread nD τ) a7 fullShare gw ∗ owns (c : Thread nD τ) a8 fullShare gb)

/-- A copy into a slice of a whole memref puts its payload over the slice's window. -/
theorem write_slice_put {b : Ref sig .tc} {off size : Fin b.ty.shape.rank → ℕ} (inb : ∀ a, off a + size a ≤ b.ty.shape.size a)
    (hs : ∀ a, (Rect.unit off size inb).stride a = 1) (f : b.ty.Contents (Elt F)) (w : (Rect.unit off size inb).shape.Idx → Elt F b.ty.elt) :
    ((Memref.whole b).slice (Rect.unit off size inb) hs).view.write (Elt F) f w Finset.univ = VecWindow.put f off size w :=
  View.read_writes_cons_put (Memref.whole b).view f inb w [] rfl

set_option maxHeartbeats 2000000 in
/-- The body at grid point `i`. -/
theorem kernelRun (c : Dev nD) (i : grid0.Coords)
    (oh : Vec F S32x128x128 .bf16) (em : Vec F S128x512 .bf16) (b0 b1 : Vec F S1x2048 .f32) (gw : Vec F S512x128 .f32) (gb : Vec F S1x128 .f32)
    (a3 : Memref sig .tc .vmem S32x128x128 .bf16) (h3 : a3.IsWhole) (a4 : Memref sig .tc .vmem S128x512 .bf16) (h4 : a4.IsWhole)
    (a5 : Memref sig .tc .vmem S1x2048 .f32) (h5 : a5.IsWhole) (a6 : Memref sig .tc .vmem S1x2048 .f32) (h6 : a6.IsWhole)
    (a7 : Memref sig .tc .vmem S512x128 .f32) (h7 : a7.IsWhole) (a8 : Memref sig .tc .vmem S1x128 .f32) (h8 : a8.IsWhole)
    (fm : Buf (Elt F) (fmH.view.loc (c : Thread nD τ))) (fw : Buf (Elt F) (wH.view.loc (c : Thread nD τ)))
    (f0 : Buf (Elt F) (o0.view.loc (c : Thread nD τ))) (f1 : Buf (Elt F) (o1.view.loc (c : Thread nD τ))) (f2 : Buf (Elt F) (o2.view.loc (c : Thread nD τ)))
    (W : Waits sig Unit) (K : PUnit → sProp 𝕄) :
    iprop(wins c oh em b0 b1 gw gb a3 a4 a5 a6 a7 a8 ∗ scratch c ∗ cells c ∗ pt c fmH fm ∗ pt c wH fw ∗ pt c o0 f0 ∗ pt c o1 f1 ∗ pt c o2 f2
        ∗ owes (c : Thread nD τ) 0 W
        ∗ (iprop(wins c oh em b0 b1 gw gb a3 a4 a5 a6 a7 a8 ∗ scratch c ∗ cells c ∗ pt c fmH fm ∗ pt c wH fw
              ∗ pt c o0 (VecWindow.put (s := S32x256x128) f0 (k0_off5 i) S32x128x128.size (gAll ⟨oh, em, b0, b1, fw, fmBlk fm i⟩ gw gb))
              ∗ pt c o1 (VecWindow.put (s := S32x256x512) f1 (k0_off6 i) S32x128x512.size (ctxAll ⟨oh, em, b0, b1, fw, fmBlk fm i⟩))
              ∗ pt c o2 (VecWindow.put (s := S32x256x256) f2 (k0_off7 i) S32x128x256.size (maskAll ⟨oh, em, b0, b1, fw, fmBlk fm i⟩))
              ∗ ∃ W', owes (c : Thread nD τ) 0 W') -∗ K ⟨⟩))
      ⊢ wp frame (wpE (defs₀ (F := F)) Variants.none c none) Set.univ
          (cc0_hybrid_branch_decode (F := F) i fmH (Memref.isWhole_whole _) wH (Memref.isWhole_whole _) a3 h3 a4 h4 a5 h5 a6 h6 a7 h7 a8 h8
            o0 (Memref.isWhole_whole _) o1 (Memref.isWhole_whole _) o2 (Memref.isWhole_whole _)
            fmV (Memref.isWhole_whole _) wV (Memref.isWhole_whole _) h0V (Memref.isWhole_whole _) c0V (Memref.isWhole_whole _)
            h1V (Memref.isWhole_whole _) c1V (Memref.isWhole_whole _) atV (Memref.isWhole_whole _) gV (Memref.isWhole_whole _)
            cxV (Memref.isWhole_whole _) mkV (Memref.isWhole_whole _) cc0_scratch10 cc0_scratch11 cc0_scratch12 cc0_scratch13 cc0_scratch14) K := by
  rw [cc0_hybrid_branch_decode_eq_skeleton]
  unfold cc0_hybrid_branch_decode_skel
  rw [k0_part3_eq_skeleton]
  unfold k0_part3_skel
  unfold wins scratch cells
  iintro ⟨⟨H3, H4, H5, H6, H7, H8⟩, ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, ⟨Q0, Q1, Q2, Q3, Q4⟩, Hf, Hw, O0, O1, O2, HO, HK⟩
  sl_exec
  rw [Prog.bind_assoc]
  sl_for (inv c ⟨oh, em, b0, b1, fw, fmBlk fm i⟩ a3 a4 a5 a6) $$ [H3 H4 H5 H6 S0 S1 S2 S3 S4 S5 S6 S8 S9]
  case region =>
    intro k u
    unfold inv
    iintro ⟨HR, HS, HA, ⟨%fc, Hc, %ec⟩, ⟨%fk, Hk, %ek⟩⟩
    iapply (wp_wand_r Idealize.ShloMosaic.frame (wpE (defs₀ (F := F)) Variants.none (c : Thread nD τ) none) Set.univ)
    isplitl [HR HS HA Hc Hk]
    · iapply (trip c i ⟨oh, em, b0, b1, fw, fmBlk fm i⟩ (stAt _ k.val) k a3 h3 a4 h4 a5 h5 a6 h6 a7 h7 a8 h8 fc fk)
      isplitl [HR]; · iexact HR
      isplitl [HS]; · iexact HS
      isplitl [HA]; · iexact HA
      isplitl [Hc]; · iexact Hc
      iexact Hk
    iintro %_ ⟨HR, HS, HA, ⟨%fc', Hc, %ec'⟩, ⟨%fk', Hk, %ek'⟩⟩
    rw [stAt_succ]
    isplitl [HR]; · iexact HR
    isplitl [HS]; · iexact HS
    isplitl [HA]; · iexact HA
    isplitl [Hc]
    · iexists _; isplitl; · iexact Hc
      ipureintro; rw [ec']; exact ec.put
    iexists _; isplitl; · iexact Hk
    ipureintro; rw [ek']; exact ek.put
  · unfold inv readers holds
    isplitl [H3 H4 H5 H6 S0 S1]
    · isplitl [H3]; · iexact H3
      isplitl [H4]; · iexact H4
      isplitl [H5]; · iexact H5
      isplitl [H6]; · iexact H6
      isplitl [S1]
      · iexists _; isplitl; · iexact S1
        ipureintro
        refine (View.read_write_univ _ _).trans ?_
        unfold kernelRun.sl.dma0_1; rfl
      iexists _; isplitl; · iexact S0
      ipureintro
      refine (View.read_write_univ _ _).trans ?_
      unfold kernelRun.sl.dma0; rfl
    isplitl [S2 S3 S4 S5]
    · isplitl [S2]
      · iexists _; isplitl; · iexact S2
        ipureintro; exact View.read_writes_full _ _ _ _ _
      isplitl [S3]
      · iexists _; isplitl; · iexact S3
        ipureintro; exact View.read_writes_full _ _ _ _ _
      isplitl [S4]
      · iexists _; isplitl; · iexact S4
        ipureintro; exact View.read_writes_full _ _ _ _ _
      iexists _; isplitl; · iexact S5
      ipureintro; exact View.read_writes_full _ _ _ _ _
    isplitl [S6]; · iexists _; iexact S6
    isplitl [S8]
    · iexists _; isplitl; · iexact S8
      ipureintro; intro j hj; exact absurd hj (Nat.not_lt_zero _)
    iexists _; isplitl; · iexact S9
    ipureintro; intro j hj; exact absurd hj (Nat.not_lt_zero _)
  iintro %u HI
  unfold inv readers holds owns
  icases HI with ⟨⟨H3, H4, H5, H6, ⟨%t1, S1, -⟩, ⟨%t0, S0, -⟩⟩, ⟨⟨%t2, S2, -⟩, ⟨%t3, S3, -⟩, ⟨%t4, S4, -⟩, ⟨%t5, S5, -⟩⟩, ⟨%t6, S6⟩, ⟨%t8, S8, %e8⟩, ⟨%t9, S9, %e9⟩⟩
  icases H7 with ⟨%f7, %e7, H7⟩
  icases H8 with ⟨%f8, %e8', H8⟩
  sl_exec
  sl_step
  have E8 : (t8 : Vec F S32x128x512 .f32) = ctxAll ⟨oh, em, b0, b1, fw, fmBlk fm i⟩ := CtxRows.all e8
  have E9 : (t9 : Vec F S32x128x256 .bf16) = maskAll ⟨oh, em, b0, b1, fw, fmBlk fm i⟩ := MaskRows.all e9
  have E0 : kernelRun.sl.O0_w0 c i a7 a8 f0 s7 t8 f7 f8
      = VecWindow.put (s := S32x256x128) f0 (k0_off5 i) S32x128x128.size (gAll ⟨oh, em, b0, b1, fw, fmBlk fm i⟩ gw gb) := by
    unfold kernelRun.sl.O0_w0
    refine (write_slice_put _ _ _ _).trans (congrArg _ ?_)
    unfold kernelRun.sl.dma5
    refine Eq.trans (b := gV.view.read (Elt F) (gV.view.writes (Elt F) s7 (kernelRun.sl.S7_1 c a7 a8 t8 f7 f8))) rfl ?_
    unfold kernelRun.sl.S7_1 gAll
    rw [View.read_writes_full, View.readAt_full a7.view, View.readAt_full a8.view, e7, e8']
    rw [show View.readAt (Elt F) cxV.view (Rect.unit ![0, 0, 0] S32x128x512.size inb_S32x128x512_S32x128x512_0_0_0).toLoadRect t8
      = ctxAll ⟨oh, em, b0, b1, fw, fmBlk fm i⟩ from (View.readAt_full cxV.view t8 _).trans E8]
  have E1 : kernelRun.sl.O1_w1 c i f1 t8
      = VecWindow.put (s := S32x256x512) f1 (k0_off6 i) S32x128x512.size (ctxAll ⟨oh, em, b0, b1, fw, fmBlk fm i⟩) := by
    unfold kernelRun.sl.O1_w1
    refine (write_slice_put _ _ _ _).trans (congrArg _ ?_)
    unfold kernelRun.sl.dma5_1
    exact E8
  have E2 : kernelRun.sl.O2_w2 c i f2 t9
      = VecWindow.put (s := S32x256x256) f2 (k0_off7 i) S32x128x256.size (maskAll ⟨oh, em, b0, b1, fw, fmBlk fm i⟩) := by
    unfold kernelRun.sl.O2_w2
    refine (write_slice_put _ _ _ _).trans (congrArg _ ?_)
    unfold kernelRun.sl.dma5_2
    exact E9
  rw [E0, E1, E2]
  iapply HK
  isplitl [H3 H4 H5 H6 H7 H8]
  · isplitl [H3]; · iexact H3
    isplitl [H4]; · iexact H4
    isplitl [H5]; · iexact H5
    isplitl [H6]; · iexact H6
    isplitl [H7]
    · iexists _; isplitr; swap; · iexact H7
      ipureintro; exact e7
    iexists _; isplitr; swap; · iexact H8
    ipureintro; exact e8'
  isplitl [S0 S1 S2 S3 S4 S5 S6 S7 S8 S9]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    iexists _; iexact S9
  isplitl [Q0 Q1 Q2 Q3 Q4]
  · isplitl [Q0]; · iexact Q0
    isplitl [Q1]; · iexact Q1
    isplitl [Q2]; · iexact Q2
    isplitl [Q3]; · iexact Q3
    iexact Q4
  isplitl [Hf]; · iexact Hf
  isplitl [Hw]; · iexact Hw
  isplitl [O0]; · iexact O0
  isplitl [O1]; · iexact O1
  isplitl [O2]; · iexact O2
  iexists _; iexact HO

end Cert.KernelIdeal.Hand

end
-- ==== Proof.Run.lean ====
/-
  Hand-written, untrusted. The run of the whole program: the body at each of the two grid points, the three results as the points
  leave them, the host operations around the call.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The body's own cells and the arrays it copies from and to -/

abbrev osem0 : Fin 5 → SemLoc sig := fun j => (![SemLoc.dma 7, SemLoc.dma 8, SemLoc.dma 9, SemLoc.dma 10, SemLoc.dma 11] : Fin 5 → SemLoc sig) j

theorem ownSemFacts0 : Pipeline.OwnSemFacts spec0 osem0 := by decide

theorem ownSems0_cells (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4] (by decide) (by decide)]; rfl

/-- The arrays the body reads whole; the arrays it writes. -/
def H0 : Finset (Ref sig .tc) := {main_v2, main_v28}
def R0 : Finset (Ref sig .tc) := {main_v42_0, main_v42_1, main_v42_2}

theorem H0_sub : H0 ⊆ Pipeline.restRefs sig spec0 := by decide
theorem R0_sub : R0 ⊆ Pipeline.restRefs sig spec0 \ H0 := by decide

variable (m : (ℓ : Loc nD τ sig) → Buf (Elt F) ℓ) (ρ : Dev nD → PrngReg)

/-! ## What the windows hold and what the results hold before each point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the trips of point `t` read. -/
def inp (c : Dev nD) (t : Fin cfg0.N) : Inp F :=
  ⟨iblk m c 0 t, iblk m c 1 t, iblk m c 2 t, iblk m c 3 t, V m c main_v28, fmBlk (V m c main_v2) (grid0.coords t)⟩

/-- The three results before point `n`. -/
def res0 (c : Dev nD) : ℕ → Vec F S32x256x128 .f32
  | 0 => V m c main_v42_0
  | n + 1 => if h : n < cfg0.N then
      VecWindow.put (s := S32x256x128) (res0 c n) (k0_off5 (grid0.coords ⟨n, h⟩)) S32x128x128.size (gAll (inp m c ⟨n, h⟩) (iblk m c 4 ⟨n, h⟩) (iblk m c 5 ⟨n, h⟩))
    else res0 c n
def res1 (c : Dev nD) : ℕ → Vec F S32x256x512 .f32
  | 0 => V m c main_v42_1
  | n + 1 => if h : n < cfg0.N then
      VecWindow.put (s := S32x256x512) (res1 c n) (k0_off6 (grid0.coords ⟨n, h⟩)) S32x128x512.size (ctxAll (inp m c ⟨n, h⟩))
    else res1 c n
def res2 (c : Dev nD) : ℕ → Vec F S32x256x256 .bf16
  | 0 => V m c main_v42_2
  | n + 1 => if h : n < cfg0.N then
      VecWindow.put (s := S32x256x256) (res2 c n) (k0_off7 (grid0.coords ⟨n, h⟩)) S32x128x256.size (maskAll (inp m c ⟨n, h⟩))
    else res2 c n

theorem res0_succ (c : Dev nD) (t : Fin cfg0.N) : res0 m c (t.val + 1)
    = VecWindow.put (s := S32x256x128) (res0 m c t.val) (k0_off5 (grid0.coords t)) S32x128x128.size (gAll (inp m c t) (iblk m c 4 t) (iblk m c 5 t)) := by
  rw [res0, dif_pos t.isLt]
theorem res1_succ (c : Dev nD) (t : Fin cfg0.N) : res1 m c (t.val + 1)
    = VecWindow.put (s := S32x256x512) (res1 m c t.val) (k0_off6 (grid0.coords t)) S32x128x512.size (ctxAll (inp m c t)) := by
  rw [res1, dif_pos t.isLt]
theorem res2_succ (c : Dev nD) (t : Fin cfg0.N) : res2 m c (t.val + 1)
    = VecWindow.put (s := S32x256x256) (res2 m c t.val) (k0_off7 (grid0.coords t)) S32x128x256.size (maskAll (inp m c t)) := by
  rw [res2, dif_pos t.isLt]

/-- The results' contents after the call. -/
def G0 (c : Dev nD) : (b : Ref sig .tc) → Buf (Elt F) ((c.tc : Thread nD τ).loc b) :=
  Function.update (Function.update (Function.update (fun b => V m c b) main_v42_0 (res0 m c cfg0.N)) main_v42_1 (res1 m c cfg0.N)) main_v42_2 (res2 m c cfg0.N)

/-- What is held between points: the buffers at any contents, the cells at zero, the arrays read, the results as they stand. -/
def inv0 (c : Dev nD) (n : ℕ) : sProp 𝕄 :=
  iprop(scratch c ∗ cells c ∗ (pt c fmH (V m c main_v2) ∗ pt c wH (V m c main_v28))
    ∗ pt c o0 (res0 m c n) ∗ pt c o1 (res1 m c n) ∗ pt c o2 (res2 m c n))

theorem drv_eq (c : Dev nD) (G : (c : Dev nD) → (b : Ref sig .tc) → Buf (Elt F) ((c.tc : Thread nD τ).loc b)) :
    (Pipeline.ΦDRV osem0 spec0 H0 R0 (V m) G c : sProp 𝕄)
      = iprop(scratch c ∗ cells c ∗ (pt c fmH (V m c main_v2) ∗ pt c wH (V m c main_v28))
          ∗ pt c o0 (G c main_v42_0) ∗ pt c o1 (G c main_v42_1) ∗ pt c o2 (G c main_v42_2)) := by
  unfold Pipeline.ΦDRV
  rw [ownSems0_cells, scopedRest0_eq,
    BI.bigSep_eq_bigSepL_of_eq [main_v2, main_v28] (by decide) (by decide),
    BI.bigSep_eq_bigSepL_of_eq [main_v42_0, main_v42_1, main_v42_2] (by decide) (by decide)]
  rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ n := inv0 m c n.val
  q _ := fullShare
  owed _ := 0

theorem A_eq (c : Dev nD) (w : Fin cfg0.W) : (dats m 0 c).A w = V m c (Pipeline.arrRef spec0 w) := by dsimp only [dats]

theorem before_of {c : Dev nD} (dat : Dat τ (Elt F) Unit ℕ (Pipeline.UD sig nD τ) ℕ cfg0 c) (w : Fin cfg0.W) (hw : (cfg0.win w).isOut = false)
    (hl : ∀ i, cfg0.idle w i = false) (hc : ∀ t t' : Fin cfg0.N, (cfg0.win w).index t = (cfg0.win w).index t' → (cfg0.win w).clip (cfg0.grid.coords t) = (cfg0.win w).clip (cfg0.grid.coords t'))
    (hA : dat.A w = V m c (Pipeline.arrRef spec0 w)) (hafter : ∀ t, (cfg0.win w).cut (cfg0.grid.coords t) (dat.after w t) = iblk m c w t) (t : Fin cfg0.N) (d) :
    dat.before w t d = (cfg0.win w).fill (cfg0.grid.coords t) d (iblk m c w t) :=
  (dat.before_in_eq_fetched w hw hl hc (fun t => by rw [hafter]; unfold Dat.blockOf iblk; rw [hA]) t d).trans
    (by unfold Dat.fetched Dat.blockOf iblk; rw [hA])

theorem before0 (c : Dev nD) (t : Fin cfg0.N) (d) : (dats m 0 c).before 0 t d = iblk m c 0 t :=
  before_of m (dats m 0 c) 0 rfl (fun _ => rfl) (fun _ _ _ => rfl) (A_eq m c 0) (fun _ => by dsimp only [dats]) t d
theorem before1 (c : Dev nD) (t : Fin cfg0.N) (d) : (dats m 0 c).before 1 t d = iblk m c 1 t :=
  before_of m (dats m 0 c) 1 rfl (fun _ => rfl) (fun _ _ _ => rfl) (A_eq m c 1) (fun _ => by dsimp only [dats]) t d
theorem before2 (c : Dev nD) (t : Fin cfg0.N) (d) : (dats m 0 c).before 2 t d = iblk m c 2 t :=
  before_of m (dats m 0 c) 2 rfl (fun _ => rfl) (fun _ _ _ => rfl) (A_eq m c 2) (fun _ => by dsimp only [dats]) t d
theorem before3 (c : Dev nD) (t : Fin cfg0.N) (d) : (dats m 0 c).before 3 t d = iblk m c 3 t :=
  before_of m (dats m 0 c) 3 rfl (fun _ => rfl) (fun _ _ _ => rfl) (A_eq m c 3) (fun _ => by dsimp only [dats]) t d
theorem before4 (c : Dev nD) (t : Fin cfg0.N) (d) : (dats m 0 c).before 4 t d = iblk m c 4 t :=
  before_of m (dats m 0 c) 4 rfl (fun _ => rfl) (fun _ _ _ => rfl) (A_eq m c 4) (fun _ => by dsimp only [dats]) t d
theorem before5 (c : Dev nD) (t : Fin cfg0.N) (d) : (dats m 0 c).before 5 t d = iblk m c 5 t :=
  before_of m (dats m 0 c) 5 rfl (fun _ => rfl) (fun _ _ _ => rfl) (A_eq m c 5) (fun _ => by dsimp only [dats]) t d

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, after0, after1, after2, after3, after4, after5]
  rw [show (dats m 0 c).Φ t.succ = inv0 m c (t.val + 1) from rfl,
    show (dats m 0 c).owesAt () t.succ = (dats m 0 c).owesAt () t.castSucc from rfl,
    show (dats m 0 c).Φ t.castSucc = inv0 m c t.val from rfl]
  unfold Dat.owesAt Pipeline.owesWithin inv0
  rw [show (dats m 0 c).owed t.castSucc = 0 from rfl, res0_succ, res1_succ, res2_succ]
  iintro ⟨⟨HS, HC, ⟨Hf, Hw⟩, H0, H1, H2⟩, ⟨%W, %hW, HO⟩, ⟨%_, W0⟩, ⟨%_, W1⟩, ⟨%_, W2⟩, ⟨%_, W3⟩, ⟨%_, W4⟩, ⟨%_, W5⟩⟩
  iapply (kernelRun c (grid0.coords t) (iblk m c 0 t) (iblk m c 1 t) (iblk m c 2 t) (iblk m c 3 t) (iblk m c 4 t) (iblk m c 5 t)
    (st0_0 t) _ (st0_1 t) _ (st0_2 t) _ (st0_3 t) _ (st0_4 t) _ (st0_5 t) _ (V m c main_v2) (V m c main_v28) (res0 m c t.val) (res1 m c t.val) (res2 m c t.val) W _)
  unfold wins
  isplitl [W0 W1 W2 W3 W4 W5]
  · isplitl [W0]; · iexact W0
    isplitl [W1]; · iexact W1
    isplitl [W2]; · iexact W2
    isplitl [W3]; · iexact W3
    isplitl [W4]; · iexact W4
    iexact W5
  isplitl [HS]; · iexact HS
  isplitl [HC]; · iexact HC
  isplitl [Hf]; · iexact Hf
  isplitl [Hw]; · iexact Hw
  isplitl [H0]; · iexact H0
  isplitl [H1]; · iexact H1
  isplitl [H2]; · iexact H2
  isplitl [HO]; · iexact HO
  iintro ⟨HW, HS, HC, Hf, Hw, H0, H1, H2, ⟨%W', HO⟩⟩
  isplitl [HS HC Hf Hw H0 H1 H2]
  · isplitl [HS]; · iexact HS
    isplitl [HC]; · iexact HC
    isplitl [Hf Hw]
    · isplitl [Hf]; · iexact Hf
      iexact Hw
    isplitl [H0]; · iexact H0
    isplitl [H1]; · iexact H1
    iexact H2
  isplitl [HO]
  · iexists W'; isplitr; · ipureintro; exact fun _ _ => Or.inl trivial
    iexact HO
  iexact HW

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the run leaves: every buffer no window stages holds what the host operations after the call leave over the call's results. -/
def Post (r : PUnit × MemSt nD τ sig (Elt F)) : Prop :=
  (∀ c : Dev nD, ∀ b ∈ Pipeline.restRefs sig spec0, r.2.mem ((c : Thread nD τ).loc b)
    = StableHlo.after (List.flatten [hostOps1]) (Pipeline.withArrays spec0 c (Pipeline.withR (V0 m c) R0 c (G0 m c)) fun w => (dats m 0 c).arrAt w cfg0.N) (Proc.devRef .tc b))
  ∧ r.2.sem = fun _ => 0

set_option backward.isDefEq.respectTransparency.types false in
theorem run_main : θ_run defs (onTc (τ := τ) (main (F := F))) (s₀ m ρ) (Post m) :=
  (θ_run defs _ _).mono (fun r h => ⟨fun c => (h.1 c).2, h.2⟩)
    (Pipeline.θ_run_frame_dmaR_aroundV (Q' := _) (hQ' := fun _ h => h) cfgs (dats m) (0 : Fin 1) launch0 osem0 defs₀ Variants.none ownSemFacts0 H0 R0 H0_sub R0_sub m ρ main
      (hbody := fun c => (body_obligation m c).loose) (hshare := fun c => (dats m 0 c).share_full fun _ => rfl)
      (howed := fun _ _ => rfl) (V₀ := V0 m) (opss := [hostOps1]) (hsub := sfx_sub) (hfresh := sfx_fresh) (hkeep := sfx_keeps) (G := G0 m)
      (hmain := hmainD m Variants.none) (hA := A_eq m)
      (hin := fun c => by rw [show (Pipeline.ΦDRV osem0 spec0 H0 R0 (V m) (V m) c : sProp 𝕄) = _ from drv_eq m c (V m)]; exact .rfl)
      (hout := fun c => by
        rw [show (Pipeline.ΦDRV osem0 spec0 H0 R0 (V m) (G0 m) c : sProp 𝕄) = _ from drv_eq m c (G0 m)]
        have e0 : G0 m c main_v42_0 = res0 m c cfg0.N := by
          unfold G0; rw [Function.update_of_ne (by decide), Function.update_of_ne (by decide), Function.update_self]
        have e1 : G0 m c main_v42_1 = res1 m c cfg0.N := by
          unfold G0; rw [Function.update_of_ne (by decide), Function.update_self]
        have e2 : G0 m c main_v42_2 = res2 m c cfg0.N := by
          unfold G0; rw [Function.update_self]
        rw [e0, e1, e2]; exact .rfl))

end Cert.KernelIdeal.Hand

end
-- ==== Proof.Frames.lean ====
/-
  Hand-written, untrusted. The arguments after the run: no host operation, no window and no copy of the body writes one.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable {m : (ℓ : Loc nD τ sig) → Buf (Elt F) ℓ}

/-- What the host operations after the call write. -/
abbrev tailW : List (Ref sig .tc) := [main_v43, main_v44, main_v45, main_v46, main_v47, main_v48]
theorem tail_writes : (hostOps1 : List (HloOp τ sig (Elt F))).Forall fun op => op.writes ⊆ (tailW.map (Proc.devRef (τ := τ) .tc)).toFinset :=
  StableHlo.forall_writes_sub_of_map rfl

/-- A buffer neither the call nor the operations after it write holds what it held at the call. -/
theorem Post.keeps {r : PUnit × MemSt nD τ sig (Elt F)} (h : Post m r) (c : Dev nD) (b : Ref sig .tc) (hs : b ∈ Pipeline.restRefs sig spec0)
    (ht : b ∉ tailW) (hR : b ∉ R0) (ha : ∀ w, Pipeline.arrRef spec0 w ≠ b) : r.2.mem ((c : Thread nD τ).loc b) = V m c b := by
  rw [h.1 c b hs, show List.flatten [hostOps1 (F := F)] = hostOps1 from List.append_nil _, StableHlo.after_of_writes_sub _ _ tail_writes ht,
    Pipeline.withArrays_of_ne _ c _ _ b ha, Pipeline.withR_of_not_mem _ R0 c _ b hR]

/-- Every argument ends as it was launched, every counter at zero. -/
def Kept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)

theorem Post.kept {r : PUnit × MemSt nD τ sig (Elt F)} (h : Post m r) (c : Dev nD) : Kept m r c :=
  have K := fun (b : Ref sig .tc) hs ht hR ha => h.keeps c b hs ht hR ha
  ⟨(K main_arg0 (Pipeline.mem_restRefs_of _ (by decide) (by decide)) (by decide) (by decide) (by decide)).trans (V_main_arg0 m c),
   (K main_arg1 (Pipeline.mem_restRefs_of _ (by decide) (by decide)) (by decide) (by decide) (by decide)).trans (V_main_arg1 m c),
   (K main_arg2 (Pipeline.mem_restRefs_of _ (by decide) (by decide)) (by decide) (by decide) (by decide)).trans (V_main_arg2 m c),
   (K main_arg3 (Pipeline.mem_restRefs_of _ (by decide) (by decide)) (by decide) (by decide) (by decide)).trans (V_main_arg3 m c),
   (K main_arg4 (Pipeline.mem_restRefs_of _ (by decide) (by decide)) (by decide) (by decide) (by decide)).trans (V_main_arg4 m c),
   (K main_arg5 (Pipeline.mem_restRefs_of _ (by decide) (by decide)) (by decide) (by decide) (by decide)).trans (V_main_arg5 m c),
   (K main_arg6 (Pipeline.mem_restRefs_of _ (by decide) (by decide)) (by decide) (by decide) (by decide)).trans (V_main_arg6 m c),
   (K main_arg7 (Pipeline.mem_restRefs_of _ (by decide) (by decide)) (by decide) (by decide) (by decide)).trans (V_main_arg7 m c),
   (K main_arg8 (Pipeline.mem_restRefs_of _ (by decide) (by decide)) (by decide) (by decide) (by decide)).trans (V_main_arg8 m c),
   (K main_arg9 (Pipeline.mem_restRefs_of _ (by decide) (by decide)) (by decide) (by decide) (by decide)).trans (V_main_arg9 m c),
   (K main_arg10 (Pipeline.mem_restRefs_of _ (by decide) (by decide)) (by decide) (by decide) (by decide)).trans (V_main_arg10 m c),
   (K main_arg11 (Pipeline.mem_restRefs_of _ (by decide) (by decide)) (by decide) (by decide) (by decide)).trans (V_main_arg11 m c),
   (K main_arg12 (Pipeline.mem_restRefs_of _ (by decide) (by decide)) (by decide) (by decide) (by decide)).trans (V_main_arg12 m c),
   (K main_arg13 (Pipeline.mem_restRefs_of _ (by decide) (by decide)) (by decide) (by decide) (by decide)).trans (V_main_arg13 m c),
   (K main_arg14 (Pipeline.mem_restRefs_of _ (by decide) (by decide)) (by decide) (by decide) (by decide)).trans (V_main_arg14 m c)⟩

/-! ## The three results -/

/-- The three results, from what the call left. -/
def out0 (x : Vec F S32x256x128 .f32) : Vec F S256x32x97 .f32 :=
  extractStridedSlice S256x32x97 ![0, 0, 0] (transpose S256x32x128 [1, 0, 2] x transposes_S32x256x128_S256x32x128_1_0_2) slices_S256x32x128_S256x32x97_0_0_0
def out1 (x : Vec F S32x256x512 .f32) : Vec F S256x32x512 .f32 :=
  transpose S256x32x512 [1, 0, 2] x transposes_S32x256x512_S256x32x512_1_0_2
def out2 (x : Vec F S32x256x256 .bf16) : Vec F S256x32x8x32 .f32 :=
  shapeCast S256x32x8x32 (transpose S256x32x256 [1, 0, 2] (extf .f32 x bitsLt_bf16_f32) transposes_S32x256x256_S256x32x256_1_0_2) shapeCasts_S256x32x256_S256x32x8x32

/-- The kernel, over whichever floats, ends with its arguments kept and every counter zero. -/
theorem kept_run (m : (ℓ : Loc nD τ sig) → Buf (Elt F) ℓ) (g : Dev nD → PrngReg) :
    θ_run (defs (F := F)) (onTc (τ := τ) (main (F := F))) ⟨m, fun _ => 0, g⟩ (fun r => (∀ c, Kept m r c) ∧ r.2.sem = fun _ => 0) :=
  (θ_run _ _ _).mono (fun _ h => ⟨fun c => h.kept c, h.2⟩) (run_main m g)

end Cert.KernelIdeal.Hand

end
-- ==== Proof.Spec.lean ====
/-
  Hand-written, untrusted. The two-layer network of one batch row, written out over the extended reals: what both
  programs are read down to.
-/
module

public import Idealize.ShloMosaic.Lib.Pointwise

@[expose] public section

noncomputable section

namespace Cert.Spec

open Idealize.ShloMosaic

/-- One layer's cell state, from its 2048 gate inputs (four groups of 512) and the cell state before. -/
def cell (g : Fin 2048 → EReal) (c : Fin 512 → EReal) (j : Fin 512) : EReal :=
  Ideal.logistic (g ⟨512 + j.val, by omega⟩) * c j
    + Ideal.logistic (g ⟨j.val, by omega⟩) * Ideal.tanh (g ⟨1024 + j.val, by omega⟩)

/-- One layer's hidden state. -/
def hid (g : Fin 2048 → EReal) (c : Fin 512 → EReal) (j : Fin 512) : EReal :=
  Ideal.logistic (g ⟨1536 + j.val, by omega⟩) * Ideal.tanh (cell g c j)

/-- The gate inputs, from the layer's input, the hidden state before, two matrices and the sum of the two offsets. -/
def gates (x h : Fin 512 → EReal) (wi wh : Fin 2048 → Fin 512 → EReal) (b : Fin 2048 → EReal) (j : Fin 2048) : EReal :=
  (∑ k : Fin 512, x k * wi j k) + (∑ k : Fin 512, h k * wh j k) + b j

/-- The weights of the two layers. -/
structure Par where
  wi0 : Fin 2048 → Fin 512 → EReal
  wh0 : Fin 2048 → Fin 512 → EReal
  b0 : Fin 2048 → EReal
  wi1 : Fin 2048 → Fin 512 → EReal
  wh1 : Fin 2048 → Fin 512 → EReal
  b1 : Fin 2048 → EReal

/-- The state of one batch row. -/
@[ext] structure Row where
  h0 : Fin 512 → EReal
  c0 : Fin 512 → EReal
  h1 : Fin 512 → EReal
  c1 : Fin 512 → EReal

/-- The state after one more position of the text, whose embedded character is `x`. -/
def step (P : Par) (x : Fin 512 → EReal) (s : Row) : Row where
  h0 := hid (gates x s.h0 P.wi0 P.wh0 P.b0) s.c0
  c0 := cell (gates x s.h0 P.wi0 P.wh0 P.b0) s.c0
  h1 := hid (gates (hid (gates x s.h0 P.wi0 P.wh0 P.b0) s.c0) s.h1 P.wi1 P.wh1 P.b1) s.c1
  c1 := cell (gates (hid (gates x s.h0 P.wi0 P.wh0 P.b0) s.c0) s.h1 P.wi1 P.wh1 P.b1) s.c1

/-- The state after the first `n` positions, from the zero state. -/
def rowAt (P : Par) (x : ℕ → Fin 512 → EReal) : ℕ → Row
  | 0 => ⟨fun _ => 0, fun _ => 0, fun _ => 0, fun _ => 0⟩
  | n + 1 => step P (x n) (rowAt P x n)

/-- The attention of pixel `q`: the logistic of its features' product with the hidden state. -/
def mask (fm : Fin 256 → Fin 512 → EReal) (h : Fin 512 → EReal) (q : Fin 256) : EReal :=
  Ideal.logistic (∑ k : Fin 512, fm q k * h k)

/-- The features summed over the pixels, each under its attention. -/
def ctx (fm : Fin 256 → Fin 512 → EReal) (h : Fin 512 → EReal) (j : Fin 512) : EReal :=
  ∑ q : Fin 256, fm q j * mask fm h q

/-- The character scores of a feature vector. -/
def score {n : ℕ} (gw : Fin n → Fin 512 → EReal) (gb : Fin n → EReal) (c : Fin 512 → EReal) (j : Fin n) : EReal :=
  (∑ k : Fin 512, c k * gw j k) + gb j

/-- The arrays the network is a function of. -/
structure Args where
  img : (⟨4, ![256, 512, 8, 32]⟩ : Shape).Idx → EReal
  text : (⟨2, ![256, 32]⟩ : Shape).Idx → BitVec 32
  embW : (⟨2, ![512, 97]⟩ : Shape).Idx → EReal
  embB : (⟨1, ![512]⟩ : Shape).Idx → EReal
  wi0 : (⟨2, ![2048, 512]⟩ : Shape).Idx → EReal
  wh0 : (⟨2, ![2048, 512]⟩ : Shape).Idx → EReal
  bi0 : (⟨1, ![2048]⟩ : Shape).Idx → EReal
  bh0 : (⟨1, ![2048]⟩ : Shape).Idx → EReal
  wi1 : (⟨2, ![2048, 512]⟩ : Shape).Idx → EReal
  wh1 : (⟨2, ![2048, 512]⟩ : Shape).Idx → EReal
  bi1 : (⟨1, ![2048]⟩ : Shape).Idx → EReal
  bh1 : (⟨1, ![2048]⟩ : Shape).Idx → EReal
  genW : (⟨2, ![97, 512]⟩ : Shape).Idx → EReal
  genB : (⟨1, ![97]⟩ : Shape).Idx → EReal

/-- The weights of the two layers. -/
def Args.par (A : Args) : Par where
  wi0 j k := A.wi0 (ix2 j k)
  wh0 j k := A.wh0 (ix2 j k)
  b0 j := A.bi0 (ix1 j) + A.bh0 (ix1 j)
  wi1 j k := A.wi1 (ix2 j k)
  wh1 j k := A.wh1 (ix2 j k)
  b1 j := A.bi1 (ix1 j) + A.bh1 (ix1 j)

/-- The embedded characters of batch row `b`, whose character numbers are `idx b`. -/
def Args.emb (A : Args) (idx : Fin 256 → Fin 32 → Fin 97) (b : Fin 256) (n : ℕ) (k : Fin 512) : EReal :=
  if h : n < 32 then A.embW (ix2 k (idx b ⟨n, h⟩)) + A.embB (ix1 k) else 0

/-- The features of batch row `b`, pixel by pixel. -/
def Args.feat (A : Args) (b : Fin 256) (q : Fin 256) (k : Fin 512) : EReal :=
  A.img (ix4 b k ⟨q.val / 32, by omega⟩ ⟨q.val % 32, by omega⟩)

/-- The second layer's hidden state of batch row `b` after position `t`. -/
def Args.hidden (A : Args) (idx : Fin 256 → Fin 32 → Fin 97) (b : Fin 256) (t : Fin 32) : Fin 512 → EReal :=
  (rowAt A.par (A.emb idx b) (t.val + 1)).h1

/-- The three results. -/
def Args.ctx (A : Args) (idx : Fin 256 → Fin 32 → Fin 97) (b : Fin 256) (t : Fin 32) (j : Fin 512) : EReal :=
  Spec.ctx (A.feat b) (A.hidden idx b t) j
def Args.mask (A : Args) (idx : Fin 256 → Fin 32 → Fin 97) (b : Fin 256) (t : Fin 32) (q : Fin 256) : EReal :=
  Spec.mask (A.feat b) (A.hidden idx b t) q
def Args.score (A : Args) (idx : Fin 256 → Fin 32 → Fin 97) (b : Fin 256) (t : Fin 32) (j : Fin 97) : EReal :=
  Spec.score (fun j k => A.genW (ix2 j k)) (fun j => A.genB (ix1 j)) (A.ctx idx b t) j

/-- The three results as arrays. -/
def Args.ctxs (A : Args) (idx : Fin 256 → Fin 32 → Fin 97) : (⟨3, ![256, 32, 512]⟩ : Shape).Idx → EReal :=
  fun i => A.ctx idx (i 0) (i 1) (i 2)
def Args.masks (A : Args) (idx : Fin 256 → Fin 32 → Fin 97) : (⟨4, ![256, 32, 8, 32]⟩ : Shape).Idx → EReal :=
  fun i => A.mask idx (i 0) (i 1) ⟨(i 2).val * 32 + (i 3).val, by
    have h2 : (i 2).val < 8 := (i 2).isLt
    have h3 : (i 3).val < 32 := (i 3).isLt
    omega⟩
def Args.scores (A : Args) (idx : Fin 256 → Fin 32 → Fin 97) : (⟨3, ![256, 32, 97]⟩ : Shape).Idx → EReal :=
  fun i => A.score idx (i 0) (i 1) (i 2)

/-- Every character is in the alphabet, whose numbers are `idx`. -/
def Args.InRange (A : Args) (idx : Fin 256 → Fin 32 → Fin 97) : Prop :=
  ∀ b t, A.text (ix2 b t) = BitVec.ofNat 32 (idx b t).val

end Cert.Spec
-- ==== Proof.HostVal.lean ====
/-
  Hand-written, untrusted. What the host's operations before the launch leave for it, element by element, of the arguments.
-/
module

public import proofs.«01_k».proof.Proof.Frames
public import proofs.«01_k».proof.Proof.Spec
public import Idealize.ShloMosaic.Lib.Pointwise
public import Idealize.ShloMosaic.Lib.Tactic.CleanTypes
public import Idealize.ShloMosaic.Lib.StableHlo.ReadAt
public import Idealize.ShloMosaic.Lib.Routing.OpsPair
public import Idealize.ShloMosaic.Lib.Routing.OpsSet

@[expose] public section

set_option maxRecDepth 16384

noncomputable section

namespace Cert.KernelIdeal.Hand

open Cert.KernelIdeal Cert.KernelIdeal.Gen Idealize.ShloMosaic Cert.Spec
open Idealize.ShloMosaic.TcCoe Idealize.ShloMosaic.StableHlo

/-- A scatter that sets, all of whose start words are zero, read where one update alone lands: that update. -/
theorem pad_hit {α : Type} {s si u : Shape} {w : ℕ} (d : ScatterDims s si u) (x0 : s.Idx → α) (idx : IVec si w) (upd : u.Idx → α)
    (ι : s.Idx) (k : u.Idx) (h0 : ∀ i, idx i = 0#w) (hk : ∀ a, d.window k a = (ι a).val)
    (hinj : ∀ k', (∀ a, d.window k' a = (ι a).val) → k' = k) : Host.scatter d (fun _ b => b) x0 idx upd ι = upd k := by
  have hs : ∀ (k : u.Idx) a, d.start k idx a = 0 := fun k a => by
    unfold ScatterDims.start
    split
    · rw [h0]; exact BitVec.toInt_zero
    · rfl
  refine Routing.scatter_set_hit d x0 idx upd ι (upd k) (fun k' h => ?_) k ?_
  · rw [hinj k' fun a => ?_]
    have := (Routing.resultIdx?_eq_some d k' idx ι).1 h a
    rw [hs] at this
    omega
  · refine (Routing.resultIdx?_eq_some d k idx ι).2 fun a => ?_
    rw [hs, hk]
    omega

variable (m : (ℓ : Loc nD τ sig) → Buf (Elt Ideal) ℓ) (c : Dev nD)

/-- The arguments in memory. -/
def args : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13)⟩

theorem v2_apply (b q : Fin 256) (k : Fin 512) : (V m c main_v2 : Vec Ideal S256x256x512 .bf16) (ix3 b q k) = (args m c).feat b q k := by
  show StableHlo.after (List.flatten [hostOps0]) (fun b => m (c, b)) (Proc.devRef .tc main_v2) (ix3 b q k) = _
  simp only [List.flatten_cons, List.flatten_nil, List.append_nil]
  after_reads_at
  rfl

/-- A truth value as a number. -/
theorem hot_apply (x y : BitVec 32) : (FloatOps.uitofp (F := Ideal) .bf16 (IntOp.cmpi .eq x y) : EReal) = if x = y then 1 else 0 := by
  by_cases e : x = y
  · subst e
    rw [if_pos rfl, show IntOp.cmpi .eq x x = 1#1 by simp [IntOp.cmpi]]
    show (((1 : ℕ) : ℝ) : EReal) = 1
    norm_num
  · rw [if_neg e, show IntOp.cmpi .eq x y = 0#1 by
      unfold IntOp.cmpi
      dsimp only
      rw [beq_eq_false_iff_ne.2 e]
      rfl]
    show (((0 : ℕ) : ℝ) : EReal) = 0
    norm_num

theorem v10_apply (t : Fin 32) (b : Fin 256) (a : Fin 128) : (V m c main_v10 : Vec Ideal S32x256x128 .bf16) (ix3 t b a)
    = (if (args m c).text (ix2 b t) = BitVec.ofNat 32 a.val then 1 else 0 : EReal) := by
  show StableHlo.after (List.flatten [hostOps0]) (fun b => m (c, b)) (Proc.devRef .tc main_v10) (ix3 t b a) = _
  simp only [List.flatten_cons, List.flatten_nil, List.append_nil]
  after_reads_at
  exact hot_apply _ _

theorem v18_apply (i : Fin 97) (k : Fin 512) : (V m c main_v18 : Vec Ideal S128x512 .bf16) (ix2 ⟨i.val, by omega⟩ k)
    = (args m c).embW (ix2 k i) + (args m c).embB (ix1 k) := by
  show StableHlo.after (List.flatten [hostOps0]) (fun b => m (c, b)) (Proc.devRef .tc main_v18) (ix2 ⟨i.val, by omega⟩ k) = _
  simp only [List.flatten_cons, List.flatten_nil, List.append_nil]
  after_reads_at
  refine congrArg₂ (· + ·) ((pad_hit _ _ _ _ _ (ix2 i k) (fun _ => rfl) (fun a => ?_) fun k' h => ?_).trans ?_) rfl
  · fin_cases a <;> rfl
  · idx_vars k'
    have h0 : k'0.val = i.val := h 0
    have h1 : k'1.val = k.val := h 1
    rw [Fin.ext h0, Fin.ext h1]
  · pointwise [args]

theorem v28_apply (i : Fin 4) (k : Fin 512) (j : Fin 2048) : (V m c main_v28 : Vec Ideal S4x512x2048 .bf16) (ix3 i k j)
    = (![(args m c).wi0 (ix2 j k), (args m c).wh0 (ix2 j k), (args m c).wi1 (ix2 j k), (args m c).wh1 (ix2 j k)] : Fin 4 → EReal) i := by
  fin_cases i
  all_goals show StableHlo.after (List.flatten [hostOps0]) (fun b => m (c, b)) (Proc.devRef .tc main_v28) (ix3 _ k j) = _
  all_goals simp only [List.flatten_cons, List.flatten_nil, List.append_nil]
  all_goals after_reads_at
  all_goals after_reads_at
  all_goals rfl

theorem v30_apply (j : Fin 2048) : (V m c main_v30 : Vec Ideal S1x2048 .f32) (ix2 0 j)
    = (args m c).bi0 (ix1 j) + (args m c).bh0 (ix1 j) := by
  show StableHlo.after (List.flatten [hostOps0]) (fun b => m (c, b)) (Proc.devRef .tc main_v30) (ix2 0 j) = _
  simp only [List.flatten_cons, List.flatten_nil, List.append_nil]
  after_reads_at
  rfl

theorem v32_apply (j : Fin 2048) : (V m c main_v32 : Vec Ideal S1x2048 .f32) (ix2 0 j)
    = (args m c).bi1 (ix1 j) + (args m c).bh1 (ix1 j) := by
  show StableHlo.after (List.flatten [hostOps0]) (fun b => m (c, b)) (Proc.devRef .tc main_v32) (ix2 0 j) = _
  simp only [List.flatten_cons, List.flatten_nil, List.append_nil]
  after_reads_at
  rfl

theorem v36_apply (k : Fin 512) (i : Fin 97) : (V m c main_v36 : Vec Ideal S512x128 .f32) (ix2 k ⟨i.val, by omega⟩)
    = (args m c).genW (ix2 i k) := by
  show StableHlo.after (List.flatten [hostOps0]) (fun b => m (c, b)) (Proc.devRef .tc main_v36) (ix2 k ⟨i.val, by omega⟩) = _
  simp only [List.flatten_cons, List.flatten_nil, List.append_nil]
  after_reads_at
  refine (pad_hit _ _ _ _ _ (ix2 k i) (fun _ => rfl) (fun a => ?_) fun k' h => ?_).trans ?_
  · fin_cases a <;> rfl
  · idx_vars k'
    have h0 : k'0.val = k.val := h 0
    have h1 : k'1.val = i.val := h 1
    rw [Fin.ext h0, Fin.ext h1]
  · pointwise [args]

theorem v41_apply (i : Fin 97) : (V m c main_v41 : Vec Ideal S1x128 .f32) (ix2 0 ⟨i.val, by omega⟩)
    = (args m c).genB (ix1 i) := by
  show StableHlo.after (List.flatten [hostOps0]) (fun b => m (c, b)) (Proc.devRef .tc main_v41) (ix2 0 ⟨i.val, by omega⟩) = _
  simp only [List.flatten_cons, List.flatten_nil, List.append_nil]
  after_reads_at
  refine (pad_hit _ _ _ _ _ (ix1 i) (fun q => ?_) (fun a => ?_) fun k' h => ?_).trans ?_
  · idx_vars q
    pointwise
    after_reads_simp
    split <;> rfl
  · fin_cases a <;> rfl
  · idx_vars k'
    have h1 : k'0.val = i.val := h 1
    rw [Fin.ext h1]
  · pointwise [args]

end Cert.KernelIdeal.Hand
-- ==== Proof.Pay.lean ====
/-
  Hand-written, untrusted. What the kernel's body computes, element by element, over the extended reals.
-/
module

public import proofs.«01_k».proof.Proof.Body
public import proofs.«01_k».proof.Proof.Spec
public import Idealize.ShloMosaic.Lib.Pointwise

@[expose] public section

set_option maxRecDepth 16384

noncomputable section

namespace Cert.KernelIdeal.Hand

open Cert.KernelIdeal Cert.KernelIdeal.Gen Idealize.ShloMosaic Cert.Spec

/-- The weights a body reads. -/
def par (X : Inp Ideal) : Par where
  wi0 j k := X.w (ix3 0 k j)
  wh0 j k := X.w (ix3 1 k j)
  b0 j := X.b0 (ix2 0 j)
  wi1 j k := X.w (ix3 2 k j)
  wh1 j k := X.w (ix3 3 k j)
  b1 j := X.b1 (ix2 0 j)

/-- Row `r` of the state. -/
def rowOf (s : St Ideal) (r : Fin 128) : Row where
  h0 j := s.h0 (ix2 r j)
  c0 j := s.c0 (ix2 r j)
  h1 j := s.h1 (ix2 r j)
  c1 j := s.c1 (ix2 r j)

/-- The embedded character of row `r` at position `t`: the one-hot row times the table. -/
def embAt (X : Inp Ideal) (r : Fin 128) (t : Fin 32) (k : Fin 512) : EReal :=
  ∑ a : Fin 128, X.oh (ix3 t r a) * X.em (ix2 a k)

theorem w0_apply (X : Inp Ideal) (k : Fin 512) (j : Fin 2048) : w0 X (ix3 0 k j) = X.w (ix3 0 k j) := by
  pointwise [w0]
theorem w1_apply (X : Inp Ideal) (k : Fin 512) (j : Fin 2048) : w1 X (ix3 0 k j) = X.w (ix3 1 k j) := by
  pointwise [w1]
theorem w2_apply (X : Inp Ideal) (k : Fin 512) (j : Fin 2048) : w2 X (ix3 0 k j) = X.w (ix3 2 k j) := by
  pointwise [w2]
theorem w3_apply (X : Inp Ideal) (k : Fin 512) (j : Fin 2048) : w3 X (ix3 0 k j) = X.w (ix3 3 k j) := by
  pointwise [w3]

theorem ohRow_apply (X : Inp Ideal) (k : Fin k0_t1_loop.trips) (t : Fin 32) (ht : k.val = t.val) (r a : Fin 128) :
    ohRow X k (ix3 0 r a) = X.oh (ix3 t r a) := by
  unfold ohRow View.ld
  congr 1
  funext d
  apply Fin.ext
  fin_cases d <;> simp [Rect.unit, LoadRect.idx, k0_off2_eq k, ht]

theorem pay2_apply (v38 : Vec Ideal S1x128x128 .bf16) (v40 : Vec Ideal S128x512 .bf16) (v44 : Vec Ideal S128x512 .f32)
    (v46 v48 : Vec Ideal S1x512x2048 .bf16) (v50 : Vec Ideal S1x2048 .f32) (r : Fin 128) (j : Fin 2048) :
    k0_pay2 v38 v40 v44 v46 v48 v50 (ix2 r j)
      = gates (fun k => ∑ a : Fin 128, v38 (ix3 0 r a) * v40 (ix2 a k)) (fun k => v44 (ix2 r k))
          (fun j k => v46 (ix3 0 k j)) (fun j k => v48 (ix3 0 k j)) (fun j => v50 (ix2 0 j)) j := by
  pointwise [k0_pay2, gates]

theorem pay7_apply (v70 v78 : Vec Ideal S128x512 .f32)
    (v80 v82 : Vec Ideal S1x512x2048 .bf16) (v84 : Vec Ideal S1x2048 .f32) (r : Fin 128) (j : Fin 2048) :
    k0_pay7 v70 v78 v80 v82 v84 (ix2 r j)
      = gates (fun k => v70 (ix2 r k)) (fun k => v78 (ix2 r k))
          (fun j k => v80 (ix3 0 k j)) (fun j k => v82 (ix3 0 k j)) (fun j => v84 (ix2 0 j)) j := by
  pointwise [k0_pay7, gates]

theorem pay3_apply (v38 : Vec Ideal S1x128x128 .bf16) (v40 : Vec Ideal S128x512 .bf16) (v44 v45 : Vec Ideal S128x512 .f32)
    (v46 v48 : Vec Ideal S1x512x2048 .bf16) (v50 : Vec Ideal S1x2048 .f32) (r : Fin 128) (j : Fin 512) :
    k0_pay3 v38 v40 v44 v45 v46 v48 v50 (ix2 r j)
      = cell (fun j => k0_pay2 v38 v40 v44 v46 v48 v50 (ix2 r j)) (fun k => v45 (ix2 r k)) j := by
  pointwise [k0_pay3, cell]

theorem pay4_apply (v38 : Vec Ideal S1x128x128 .bf16) (v40 : Vec Ideal S128x512 .bf16) (v44 v45 : Vec Ideal S128x512 .f32)
    (v46 v48 : Vec Ideal S1x512x2048 .bf16) (v50 : Vec Ideal S1x2048 .f32) (r : Fin 128) (j : Fin 512) :
    k0_pay4 v38 v40 v44 v45 v46 v48 v50 (ix2 r j)
      = hid (fun j => k0_pay2 v38 v40 v44 v46 v48 v50 (ix2 r j)) (fun k => v45 (ix2 r k)) j := by
  pointwise [k0_pay4, hid]
  rw [pay3_apply]

theorem pay8_apply (v70 v78 v79 : Vec Ideal S128x512 .f32)
    (v80 v82 : Vec Ideal S1x512x2048 .bf16) (v84 : Vec Ideal S1x2048 .f32) (r : Fin 128) (j : Fin 512) :
    k0_pay8 v70 v78 v79 v80 v82 v84 (ix2 r j)
      = cell (fun j => k0_pay7 v70 v78 v80 v82 v84 (ix2 r j)) (fun k => v79 (ix2 r k)) j := by
  pointwise [k0_pay8, cell]

theorem pay9_apply (v70 v78 v79 : Vec Ideal S128x512 .f32)
    (v80 v82 : Vec Ideal S1x512x2048 .bf16) (v84 : Vec Ideal S1x2048 .f32) (r : Fin 128) (j : Fin 512) :
    k0_pay9 v70 v78 v79 v80 v82 v84 (ix2 r j)
      = hid (fun j => k0_pay7 v70 v78 v80 v82 v84 (ix2 r j)) (fun k => v79 (ix2 r k)) j := by
  pointwise [k0_pay9, hid]
  rw [pay8_apply]

/-- One trip is one step of every row. -/
theorem rowOf_next (X : Inp Ideal) (k : Fin k0_t1_loop.trips) (t : Fin 32) (ht : k.val = t.val) (s : St Ideal)
    (r : Fin 128) : rowOf (next X k s) r = step (par X) (embAt X r t) (rowOf s r) := by
  have hg : ∀ j, k0_pay2 (ohRow X k) X.em s.h0 (w0 X) (w1 X) X.b0 (ix2 r j)
      = gates (embAt X r t) (rowOf s r).h0 (par X).wi0 (par X).wh0 (par X).b0 j := fun j => by
    rw [pay2_apply]
    simp only [w0_apply, w1_apply, ohRow_apply X k t ht]
    rfl
  have hh : ∀ j, newH0 X k s (ix2 r j)
      = hid (gates (embAt X r t) (rowOf s r).h0 (par X).wi0 (par X).wh0 (par X).b0) (rowOf s r).c0 j := fun j => by
    unfold newH0
    rw [pay4_apply]
    simp only [hg]
    rfl
  have hc : ∀ j, newC0 X k s (ix2 r j)
      = cell (gates (embAt X r t) (rowOf s r).h0 (par X).wi0 (par X).wh0 (par X).b0) (rowOf s r).c0 j := fun j => by
    unfold newC0
    rw [pay3_apply]
    simp only [hg]
    rfl
  have hg1 : ∀ j, k0_pay7 (newH0 X k s) s.h1 (w2 X) (w3 X) X.b1 (ix2 r j)
      = gates (hid (gates (embAt X r t) (rowOf s r).h0 (par X).wi0 (par X).wh0 (par X).b0) (rowOf s r).c0)
          (rowOf s r).h1 (par X).wi1 (par X).wh1 (par X).b1 j := fun j => by
    rw [pay7_apply]
    simp only [w2_apply, w3_apply, hh]
    rfl
  ext j
  · have : (rowOf (next X k s) r).h0 j = newH0 X k s (ix2 r j) := by
      unfold rowOf next newH0
      pointwise [k0_pay5]
    rw [this, hh]
    rfl
  · have : (rowOf (next X k s) r).c0 j = newC0 X k s (ix2 r j) := by
      unfold rowOf next
      pointwise [k0_pay6]
    rw [this, hc]
    rfl
  · show k0_pay9 (newH0 X k s) s.h1 s.c1 (w2 X) (w3 X) X.b1 (ix2 r j) = _
    rw [pay9_apply]
    simp only [hg1]
    rfl
  · show k0_pay10 (newH0 X k s) s.h1 s.c1 (w2 X) (w3 X) X.b1 (ix2 r j) = _
    pointwise [k0_pay10]
    rw [pay8_apply]
    simp only [hg1]
    rfl

/-- The state after `n` trips, row by row. -/
theorem rowOf_stAt (X : Inp Ideal) (r : Fin 128) (x : ℕ → Fin 512 → EReal)
    (hx : ∀ t : Fin 32, x t.val = embAt X r t) (n : ℕ) (hn : n ≤ 32) : rowOf (stAt X n) r = rowAt (par X) x n := by
  induction n with
  | zero =>
    ext j
    · show k0_pay12 (F := Ideal) (ix2 r j) = (0 : EReal)
      pointwise [k0_pay12, k0_pay11]
    · show k0_pay13 (F := Ideal) (ix2 r j) = (0 : EReal)
      pointwise [k0_pay13, k0_pay11]
    · show k0_pay14 (F := Ideal) (ix2 r j) = (0 : EReal)
      pointwise [k0_pay14, k0_pay11]
    · show k0_pay15 (F := Ideal) (ix2 r j) = (0 : EReal)
      pointwise [k0_pay15, k0_pay11]
  | succ n ih =>
    have hk : n < k0_t1_loop.trips := by rw [trips_eq]; omega
    have e := rowOf_next X ⟨n, hk⟩ ⟨n, by omega⟩ rfl (stAt X n) r
    rw [← stAt_succ X ⟨n, hk⟩] at e
    rw [e, ih (by omega), ← hx ⟨n, by omega⟩]
    rfl

/-- The pixels' features of row `r`. -/
def fmOf (X : Inp Ideal) (r : Fin 128) (q : Fin 256) (k : Fin 512) : EReal := X.fm (ix3 r q k)

theorem pay16_apply (v111 : Vec Ideal S128x512 .f32) (v112 : Vec Ideal S128x256x512 .bf16) (r : Fin 128) (q : Fin 256) :
    k0_pay16 v111 v112 (ix2 r q) = ∑ k : Fin 512, v112 (ix3 r q k) * v111 (ix2 r k) := by
  pointwise [k0_pay16]

theorem pay17_apply (v121 : Vec Ideal S128x256 .bf16) (r : Fin 128) (q : Fin 256) :
    k0_pay17 v121 (ix2 r q) = Ideal.logistic (v121 (ix2 r q)) := by
  pointwise [k0_pay17]

/-- A sum over 256 is the sum over 64 remainders of the sums over 4 quotients. -/
theorem sum_4_64 (f : Fin 256 → EReal) :
    ∑ a : Fin 64, ∑ b : Fin 4, f ⟨b.val * 64 + a.val, by omega⟩ = ∑ q : Fin 256, f q := by
  rw [Finset.sum_comm, ← Fintype.sum_prod_type' (f := fun (b : Fin 4) (a : Fin 64) => f ⟨b.val * 64 + a.val, by omega⟩)]
  refine Fintype.sum_equiv (finProdFinEquiv (m := 4) (n := 64)) _ _ fun p => ?_
  congr 1
  apply Fin.ext
  show p.1.val * 64 + p.2.val = p.2.val + 64 * p.1.val
  omega

theorem pay19_apply (v112 : Vec Ideal S128x256x512 .bf16) (v121 : Vec Ideal S128x256 .bf16) (r : Fin 128) (j : Fin 512) :
    k0_pay19 v112 v121 (ix3 0 r j) = ∑ q : Fin 256, v112 (ix3 r q j) * k0_pay17 v121 (ix2 r q) := by
  pointwise [k0_pay19]
  exact sum_4_64 fun q => v112 (ix3 r q j) * k0_pay17 v121 (ix2 r q)

theorem attn_apply (X : Inp Ideal) (s : St Ideal) (r : Fin 128) (q : Fin 256) :
    k0_pay17 (attOf X s) (ix2 r q) = mask (fmOf X r) (rowOf s r).h1 q := by
  rw [pay17_apply]
  unfold attOf
  rw [pay16_apply]
  rfl

theorem maskRow_apply (X : Inp Ideal) (s : St Ideal) (r : Fin 128) (q : Fin 256) :
    maskRow X s (ix3 0 r q) = mask (fmOf X r) (rowOf s r).h1 q := by
  rw [← attn_apply]
  pointwise [maskRow, k0_pay18]

theorem ctxRow_apply (X : Inp Ideal) (s : St Ideal) (r : Fin 128) (j : Fin 512) :
    ctxRow X s (ix3 0 r j) = ctx (fmOf X r) (rowOf s r).h1 j := by
  unfold ctxRow
  rw [pay19_apply]
  simp only [attn_apply]
  rfl

theorem maskAll_apply (X : Inp Ideal) (t : Fin 32) (r : Fin 128) (q : Fin 256) :
    maskAll X (ix3 t r q) = mask (fmOf X r) (rowOf (stAt X (t.val + 1)) r).h1 q := by
  rw [← maskRow_apply]
  show maskRow X (stAt X (t.val + 1)) (ixM (ix3 t r q)) = _
  congr 1
  funext d
  fin_cases d <;> rfl

theorem ctxAll_apply (X : Inp Ideal) (t : Fin 32) (r : Fin 128) (j : Fin 512) :
    ctxAll X (ix3 t r j) = ctx (fmOf X r) (rowOf (stAt X (t.val + 1)) r).h1 j := by
  rw [← ctxRow_apply]
  show ctxRow X (stAt X (t.val + 1)) (ixC (ix3 t r j)) = _
  congr 1
  funext d
  fin_cases d <;> rfl

theorem gAll_apply (X : Inp Ideal) (gw : Vec Ideal S512x128 .f32) (gb : Vec Ideal S1x128 .f32) (t : Fin 32) (r j : Fin 128) :
    gAll X gw gb (ix3 t r j) = score (fun j k => gw (ix2 k j)) (fun j => gb (ix2 0 j)) (fun k => ctxAll X (ix3 t r k)) j := by
  pointwise [gAll, k0_pay1, k0_pay20, k0_pay21, score]

end Cert.KernelIdeal.Hand
-- ==== Proof.Blocks.lean ====
/-
  Hand-written, untrusted. What the kernel's body reads at a grid point, element by element, of the arguments.
-/
module

public import proofs.«01_k».proof.Proof.HostVal
public import proofs.«01_k».proof.Proof.Pay
public import Idealize.ShloMosaic.Lib.Pipeline.ValueKit.Point

@[expose] public section

set_option maxRecDepth 16384

noncomputable section

namespace Cert.KernelIdeal.Hand

open Cert.KernelIdeal Cert.KernelIdeal.Gen Idealize.ShloMosaic Cert.Spec
open Idealize.ShloMosaic.TcCoe

variable (m : (ℓ : Loc nD τ sig) → Buf (Elt Ideal) ℓ) (c : Dev nD) (t : Fin cfg0.N)

theorem coord_eq : ((grid0.coords t) 0).val = t.val := by
  fin_cases t <;> rfl

theorem idx0 : (cfg0.win 0).index t = ![0, t.val, 0] := by fin_cases t <;> rfl
theorem idx1 : (cfg0.win 1).index t = ![0, 0] := by fin_cases t <;> rfl
theorem idx2 : (cfg0.win 2).index t = ![0, 0] := by fin_cases t <;> rfl
theorem idx3 : (cfg0.win 3).index t = ![0, 0] := by fin_cases t <;> rfl
theorem idx4 : (cfg0.win 4).index t = ![0, 0] := by fin_cases t <;> rfl
theorem idx5 : (cfg0.win 5).index t = ![0, 0] := by fin_cases t <;> rfl

/-- Batch row `r` of point `t`. -/
def brow (r : Fin 128) : Fin 256 := ⟨128 * t.val + r.val, by have : t.val < 2 := t.isLt; omega⟩

/-! ## A window's block, of any array -/

theorem blk0 (X : Vec Ideal S32x256x128 .bf16) (s : Fin 32) (r a : Fin 128) :
    (((cfg0.win 0).blk t).view.read (Elt Ideal) X : Vec Ideal S32x128x128 .bf16) (ix3 s r a) = X (ix3 s (brow t r) a) := by
  blk_ext [brow, idx0 t]
theorem blk1 (X : Vec Ideal S128x512 .bf16) (i : Fin 128) (k : Fin 512) :
    (((cfg0.win 1).blk t).view.read (Elt Ideal) X : Vec Ideal S128x512 .bf16) (ix2 i k) = X (ix2 i k) := by
  blk_ext [idx1 t]
theorem blk2 (X : Vec Ideal S1x2048 .f32) (j : Fin 2048) :
    (((cfg0.win 2).blk t).view.read (Elt Ideal) X : Vec Ideal S1x2048 .f32) (ix2 0 j) = X (ix2 0 j) := by
  blk_ext [idx2 t]
theorem blk3 (X : Vec Ideal S1x2048 .f32) (j : Fin 2048) :
    (((cfg0.win 3).blk t).view.read (Elt Ideal) X : Vec Ideal S1x2048 .f32) (ix2 0 j) = X (ix2 0 j) := by
  blk_ext [idx3 t]
theorem blk4 (X : Vec Ideal S512x128 .f32) (k : Fin 512) (j : Fin 128) :
    (((cfg0.win 4).blk t).view.read (Elt Ideal) X : Vec Ideal S512x128 .f32) (ix2 k j) = X (ix2 k j) := by
  blk_ext [idx4 t]
theorem blk5 (X : Vec Ideal S1x128 .f32) (j : Fin 128) :
    (((cfg0.win 5).blk t).view.read (Elt Ideal) X : Vec Ideal S1x128 .f32) (ix2 0 j) = X (ix2 0 j) := by
  blk_ext [idx5 t]

/-! ## What the body is handed -/

theorem oh_apply (s : Fin 32) (r a : Fin 128) : (inp m c t).oh (ix3 s r a)
    = (V m c main_v10 : Vec Ideal S32x256x128 .bf16) (ix3 s (brow t r) a) := by
  unfold inp iblk
  exact blk0 t (V m c main_v10) s r a

theorem em_apply (i : Fin 128) (k : Fin 512) : (inp m c t).em (ix2 i k)
    = (V m c main_v18 : Vec Ideal S128x512 .bf16) (ix2 i k) := by
  unfold inp iblk
  exact blk1 t (V m c main_v18) i k

theorem b0_apply (j : Fin 2048) : (inp m c t).b0 (ix2 0 j) = (V m c main_v30 : Vec Ideal S1x2048 .f32) (ix2 0 j) := by
  unfold inp iblk
  exact blk2 t (V m c main_v30) j

theorem b1_apply (j : Fin 2048) : (inp m c t).b1 (ix2 0 j) = (V m c main_v32 : Vec Ideal S1x2048 .f32) (ix2 0 j) := by
  unfold inp iblk
  exact blk3 t (V m c main_v32) j

theorem gw_apply (k : Fin 512) (j : Fin 128) : (iblk m c 4 t : Vec Ideal S512x128 .f32) (ix2 k j)
    = (V m c main_v36 : Vec Ideal S512x128 .f32) (ix2 k j) := by
  unfold iblk
  exact blk4 t (V m c main_v36) k j

theorem gb_apply (j : Fin 128) : (iblk m c 5 t : Vec Ideal S1x128 .f32) (ix2 0 j)
    = (V m c main_v41 : Vec Ideal S1x128 .f32) (ix2 0 j) := by
  unfold iblk
  exact blk5 t (V m c main_v41) j

theorem fm_apply (r : Fin 128) (q : Fin 256) (k : Fin 512) : (inp m c t).fm (ix3 r q k)
    = (V m c main_v2 : Vec Ideal S256x256x512 .bf16) (ix3 (brow t r) q k) := by
  unfold inp fmBlk VecWindow.window
  dsimp only
  refine congrArg (V m c main_v2 : Vec Ideal S256x256x512 .bf16) (funext fun a => Fin.ext ?_)
  refine Eq.trans (congrArg (· + 1 * ((ix3 r q k : S128x256x512.Idx) a).val) (congrFun (k0_off1_eq (grid0.coords t)) a)) ?_
  fin_cases a
  · show 128 * ((grid0.coords t) 0).val + 1 * r.val = 128 * t.val + r.val
    rw [coord_eq]; omega
  · show 0 + 1 * q.val = q.val; omega
  · show 0 + 1 * k.val = k.val; omega

/-! ## In the words of the network -/

theorem par_of (X : Inp Ideal) (A : Args) (h0 : ∀ j k, X.w (ix3 0 k j) = A.wi0 (ix2 j k)) (h1 : ∀ j k, X.w (ix3 1 k j) = A.wh0 (ix2 j k))
    (h2 : ∀ j, X.b0 (ix2 0 j) = A.bi0 (ix1 j) + A.bh0 (ix1 j)) (h3 : ∀ j k, X.w (ix3 2 k j) = A.wi1 (ix2 j k))
    (h4 : ∀ j k, X.w (ix3 3 k j) = A.wh1 (ix2 j k)) (h5 : ∀ j, X.b1 (ix2 0 j) = A.bi1 (ix1 j) + A.bh1 (ix1 j)) : par X = A.par := by
  unfold par Args.par
  simp only [h0, h1, h2, h3, h4, h5]

theorem w_apply (i : Fin 4) (k : Fin 512) (j : Fin 2048) : (inp m c t).w (ix3 i k j)
    = (![(args m c).wi0 (ix2 j k), (args m c).wh0 (ix2 j k), (args m c).wi1 (ix2 j k), (args m c).wh1 (ix2 j k)] : Fin 4 → EReal) i := by
  unfold inp
  exact v28_apply m c i k j

theorem par_eq : par (inp m c t) = (args m c).par := by
  have h0 := fun j k => w_apply m c t 0 k j
  have h1 := fun j k => w_apply m c t 1 k j
  have h3 := fun j k => w_apply m c t 2 k j
  have h4 := fun j k => w_apply m c t 3 k j
  have h2 := fun j => (b0_apply m c t j).trans (v30_apply m c j)
  have h5 := fun j => (b1_apply m c t j).trans (v32_apply m c j)
  generalize inp m c t = X at *
  exact par_of X (args m c) h0 h1 h2 h3 h4 h5

theorem feat_eq (r : Fin 128) : fmOf (inp m c t) r = (args m c).feat (brow t r) := by
  funext q k
  exact (fm_apply m c t r q k).trans (v2_apply m c _ q k)

variable {idx : Fin 256 → Fin 32 → Fin 97}

theorem embAt_eq (hidx : (args m c).InRange idx) (r : Fin 128) (s : Fin 32) :
    embAt (inp m c t) r s = (args m c).emb idx (brow t r) s.val := by
  funext k
  unfold embAt Args.emb
  rw [dif_pos s.isLt]
  have hlt := (idx (brow t r) s).isLt
  rw [Finset.sum_eq_single (⟨(idx (brow t r) s).val, by omega⟩ : Fin 128)]
  · rw [oh_apply, em_apply, v10_apply, hidx, if_pos rfl, one_mul, v18_apply]
  · intro a _ ha
    rw [oh_apply, v10_apply, hidx, if_neg, zero_mul]
    intro h
    refine ha (Fin.ext ?_)
    have := congrArg BitVec.toNat h
    have ha' := a.isLt
    rw [BitVec.toNat_ofNat, BitVec.toNat_ofNat, Nat.mod_eq_of_lt (by omega), Nat.mod_eq_of_lt (by omega)] at this
    exact this.symm
  · intro h; exact absurd (Finset.mem_univ _) h

theorem hidden_eq (hidx : (args m c).InRange idx) (r : Fin 128) (s : Fin 32) :
    (rowOf (stAt (inp m c t) (s.val + 1)) r).h1 = (args m c).hidden idx (brow t r) s := by
  rw [rowOf_stAt (inp m c t) r ((args m c).emb idx (brow t r)) (fun s => (embAt_eq m c t hidx r s).symm) (s.val + 1) s.isLt, par_eq]
  rfl

theorem ctxAll_eq (hidx : (args m c).InRange idx) (s : Fin 32) (r : Fin 128) (j : Fin 512) :
    ctxAll (inp m c t) (ix3 s r j) = (args m c).ctx idx (brow t r) s j := by
  rw [ctxAll_apply, hidden_eq m c t hidx, feat_eq]
  rfl

theorem maskAll_eq (hidx : (args m c).InRange idx) (s : Fin 32) (r : Fin 128) (q : Fin 256) :
    maskAll (inp m c t) (ix3 s r q) = (args m c).mask idx (brow t r) s q := by
  rw [maskAll_apply, hidden_eq m c t hidx, feat_eq]
  rfl

theorem gAll_eq (hidx : (args m c).InRange idx) (s : Fin 32) (r : Fin 128) (j : Fin 97) :
    gAll (inp m c t) (iblk m c 4 t) (iblk m c 5 t) (ix3 s r ⟨j.val, by omega⟩) = (args m c).score idx (brow t r) s j := by
  rw [gAll_apply]
  unfold Args.score Spec.score
  refine congrArg₂ (· + ·) (Finset.sum_congr rfl fun k _ => congrArg₂ (· * ·) (ctxAll_eq m c t hidx s r k) ?_) ?_
  · exact (gw_apply m c t k _).trans (v36_apply m c k j)
  · exact (gb_apply m c t _).trans (v41_apply m c j)

end Cert.KernelIdeal.Hand
-- ==== Proof.Result.lean ====
/-
  Hand-written, untrusted. The kernel's three results, element by element, of its arguments.
-/
module

public import proofs.«01_k».proof.Proof.Blocks

@[expose] public section

set_option maxRecDepth 16384

noncomputable section

namespace Cert.KernelIdeal.Hand

open Cert.KernelIdeal Cert.KernelIdeal.Gen Idealize.ShloMosaic Cert.Spec
open Idealize.ShloMosaic.TcCoe Idealize.ShloMosaic.StableHlo

/-! ## A result put together from the blocks of the two points -/

/-- A block of 128 batch rows put over an array. -/
theorem put_rows {n i : ℕ} (x : (⟨3, ![32, 256, n]⟩ : Shape).Idx → EReal) (w : (⟨3, ![32, 128, n]⟩ : Shape).Idx → EReal)
    (off : Fin 3 → ℕ) (ho : off = ![0, 128 * i, 0]) (s : Fin 32) (b : Fin 256) (j : Fin n) :
    VecWindow.put (s := ⟨3, ![32, 256, n]⟩) x off ![32, 128, n] w (ix3 s b j)
      = if h : 128 * i ≤ b.val ∧ b.val < 128 * i + 128 then w (ix3 s ⟨b.val - 128 * i, by omega⟩ j) else x (ix3 s b j) := by
  subst ho
  unfold VecWindow.put
  by_cases h : 128 * i ≤ b.val ∧ b.val < 128 * i + 128
  · rw [dif_pos h, dif_pos (show ∀ a : Fin 3, (![0, 128 * i, 0] : Fin 3 → ℕ) a ≤ ((ix3 s b j : (⟨3, ![32, 256, n]⟩ : Shape).Idx) a).val
        ∧ ((ix3 s b j : (⟨3, ![32, 256, n]⟩ : Shape).Idx) a).val < (![0, 128 * i, 0] : Fin 3 → ℕ) a + (![32, 128, n] : Fin 3 → ℕ) a from fun a => by
      fin_cases a
      · exact ⟨Nat.zero_le _, by show s.val < 0 + 32; have := s.isLt; omega⟩
      · exact h
      · exact ⟨Nat.zero_le _, by show j.val < 0 + n; have := j.isLt; omega⟩)]
    refine congrArg w (funext fun a => ?_)
    fin_cases a <;> exact Fin.ext rfl
  · rw [dif_neg h, dif_neg fun hall => h (hall (1 : Fin 3))]

theorem rows_all {n : ℕ} (res : ℕ → (⟨3, ![32, 256, n]⟩ : Shape).Idx → EReal) (W : Fin cfg0.N → (⟨3, ![32, 128, n]⟩ : Shape).Idx → EReal)
    (off : Fin cfg0.N → Fin 3 → ℕ) (ho : ∀ t, off t = ![0, 128 * t.val, 0])
    (hres : ∀ t : Fin cfg0.N, res (t.val + 1) = VecWindow.put (s := ⟨3, ![32, 256, n]⟩) (res t.val) (off t) ![32, 128, n] (W t))
    (j : Fin n) (G : Fin 256 → Fin 32 → EReal) (hW : ∀ t s r, W t (ix3 s r j) = G (brow t r) s) (s : Fin 32) (b : Fin 256) :
    res cfg0.N (ix3 s b j) = G b s := by
  have h1 := (congrFun (hres ⟨1, by decide⟩) (ix3 s b j)).trans (put_rows _ _ _ (ho ⟨1, by decide⟩) s b j)
  have h0 := (congrFun (hres ⟨0, by decide⟩) (ix3 s b j)).trans (put_rows _ _ _ (ho ⟨0, by decide⟩) s b j)
  refine h1.trans ?_
  have hb := b.isLt
  by_cases h : 128 ≤ b.val
  · rw [dif_pos (by dsimp only; omega), hW]
    refine congrArg (G · s) (Fin.ext ?_)
    show 128 * 1 + (b.val - 128 * 1) = b.val
    omega
  · rw [dif_neg (by dsimp only; omega)]
    refine h0.trans ?_
    rw [dif_pos (by dsimp only; omega), hW]
    refine congrArg (G · s) (Fin.ext ?_)
    show 128 * 0 + (b.val - 128 * 0) = b.val
    omega

variable (m : (ℓ : Loc nD τ sig) → Buf (Elt Ideal) ℓ) (c : Dev nD) {idx : Fin 256 → Fin 32 → Fin 97}

theorem res0_apply (hidx : (args m c).InRange idx) (s : Fin 32) (b : Fin 256) (j : Fin 97) :
    res0 m c cfg0.N (ix3 s b ⟨j.val, by omega⟩) = (args m c).score idx b s j :=
  rows_all (n := 128) (res0 m c) (fun t => gAll (inp m c t) (iblk m c 4 t) (iblk m c 5 t)) (fun t => k0_off5 (grid0.coords t))
    (fun t => by rw [k0_off5_eq, coord_eq]) (res0_succ m c) ⟨j.val, by omega⟩ (fun b s => (args m c).score idx b s j)
    (fun t s r => gAll_eq m c t hidx s r j) s b

theorem res1_apply (hidx : (args m c).InRange idx) (s : Fin 32) (b : Fin 256) (j : Fin 512) :
    res1 m c cfg0.N (ix3 s b j) = (args m c).ctx idx b s j :=
  rows_all (n := 512) (res1 m c) (fun t => ctxAll (inp m c t)) (fun t => k0_off6 (grid0.coords t))
    (fun t => by rw [k0_off6_eq, coord_eq]) (res1_succ m c) j (fun b s => (args m c).ctx idx b s j)
    (fun t s r => ctxAll_eq m c t hidx s r j) s b

theorem res2_apply (hidx : (args m c).InRange idx) (s : Fin 32) (b : Fin 256) (q : Fin 256) :
    res2 m c cfg0.N (ix3 s b q) = (args m c).mask idx b s q :=
  rows_all (n := 256) (res2 m c) (fun t => maskAll (inp m c t)) (fun t => k0_off7 (grid0.coords t))
    (fun t => by rw [k0_off7_eq, coord_eq]) (res2_succ m c) q (fun b s => (args m c).mask idx b s q)
    (fun t s r => maskAll_eq m c t hidx s r q) s b

/-! ## What the host's operations after the call leave -/

theorem out0_apply (x : Vec Ideal S32x256x128 .f32) (b : Fin 256) (s : Fin 32) (j : Fin 97) :
    out0 x (ix3 b s j) = x (ix3 s b ⟨j.val, by omega⟩) := by
  unfold out0
  pointwise

theorem out1_apply (x : Vec Ideal S32x256x512 .f32) (b : Fin 256) (s : Fin 32) (j : Fin 512) :
    out1 x (ix3 b s j) = x (ix3 s b j) := by
  unfold out1
  pointwise

theorem out2_apply (x : Vec Ideal S32x256x256 .bf16) (b : Fin 256) (s : Fin 32) (y : Fin 8) (z : Fin 32) :
    out2 x (ix4 b s y z) = x (ix3 s b ⟨y.val * 32 + z.val, by omega⟩) := by
  unfold out2
  pointwise

theorem out0_eq (hidx : (args m c).InRange idx) : out0 (res0 m c cfg0.N) = (args m c).scores idx := by
  funext i
  rw [eq_ix3 i]
  exact (out0_apply _ (i 0) (i 1) (i 2)).trans (res0_apply m c hidx (i 1) (i 0) (i 2))

theorem out1_eq (hidx : (args m c).InRange idx) : out1 (res1 m c cfg0.N) = (args m c).ctxs idx := by
  funext i
  rw [eq_ix3 i]
  exact (out1_apply _ (i 0) (i 1) (i 2)).trans (res1_apply m c hidx (i 1) (i 0) (i 2))

theorem out2_eq (hidx : (args m c).InRange idx) : out2 (res2 m c cfg0.N) = (args m c).masks idx := by
  funext i
  rw [eq_ix4 i]
  exact (out2_apply _ (i 0) (i 1) (i 2) (i 3)).trans (res2_apply m c hidx (i 1) (i 0) _)

section
variable {m}
variable {r : PUnit × MemSt nD τ sig (Elt Ideal)}

theorem tail_out (W : Valuation τ sig (Elt Ideal)) :
    StableHlo.after hostOps1 W (Proc.devRef .tc main_v44) = out0 (W (Proc.devRef .tc main_v42_0))
    ∧ StableHlo.after hostOps1 W (Proc.devRef .tc main_v45) = out1 (W (Proc.devRef .tc main_v42_1))
    ∧ StableHlo.after hostOps1 W (Proc.devRef .tc main_v48) = out2 (W (Proc.devRef .tc main_v42_2)) := by
  refine ⟨?_, ?_, ?_⟩
  · after_reads_simp
    rfl
  · after_reads_simp
    rfl
  · after_reads_simp
    rfl

theorem entry_out : ∀ b ∈ R0, (Pipeline.withArrays spec0 c (Pipeline.withR (V0 m c) R0 c (G0 m c)) fun w => (dats m 0 c).arrAt w cfg0.N) (Proc.devRef .tc b) = G0 m c b :=
  fun b hb => (Pipeline.withArrays_of_ne _ c _ _ b (by
    revert b; decide)).trans (Pipeline.withR_of_mem _ R0 c _ b hb)

theorem Post.results (h : Post m r) : r.2.mem ((c.tc : Thread nD τ).loc main_v44) = out0 (res0 m c cfg0.N)
    ∧ r.2.mem ((c.tc : Thread nD τ).loc main_v45) = out1 (res1 m c cfg0.N)
    ∧ r.2.mem ((c.tc : Thread nD τ).loc main_v48) = out2 (res2 m c cfg0.N) := by
  have e0 : G0 m c main_v42_0 = res0 m c cfg0.N := by
    unfold G0; rw [Function.update_of_ne (by decide), Function.update_of_ne (by decide), Function.update_self]
  have e1 : G0 m c main_v42_1 = res1 m c cfg0.N := by
    unfold G0; rw [Function.update_of_ne (by decide), Function.update_self]
  have e2 : G0 m c main_v42_2 = res2 m c cfg0.N := by
    unfold G0; rw [Function.update_self]
  have t := fun (b : Ref sig .tc) hs => (h.1 c b hs).trans (congrArg (StableHlo.after · _ (Proc.devRef .tc b)) (show List.flatten [hostOps1 (F := Ideal)] = hostOps1 from List.append_nil _))
  refine ⟨(t main_v44 (Pipeline.mem_restRefs_of _ (by decide) (by decide))).trans ((tail_out _).1.trans (congrArg out0 ((entry_out c _ (by decide)).trans e0))),
    (t main_v45 (Pipeline.mem_restRefs_of _ (by decide) (by decide))).trans ((tail_out _).2.1.trans (congrArg out1 ((entry_out c _ (by decide)).trans e1))),
    (t main_v48 (Pipeline.mem_restRefs_of _ (by decide) (by decide))).trans ((tail_out _).2.2.trans (congrArg out2 ((entry_out c _ (by decide)).trans e2)))⟩

end

end Cert.KernelIdeal.Hand
-- ==== Proof.RefStep.lean ====
/-
  Hand-written, untrusted. One position of the reference's loop, element by element, over the extended reals.
-/
module

public import proofs.«01_k».proof.Proof.Gen.ReferenceIdeal.Run
public import proofs.«01_k».proof.Proof.Spec
public import Idealize.ShloMosaic.Lib.Pointwise
public import Idealize.ShloMosaic.Lib.Tactic.CleanTypes
public import Idealize.ShloMosaic.Lib.Routing.Ops
public import Idealize.ShloMosaic.Lib.StableHlo.Predicate

@[expose] public section

set_option maxRecDepth 16384

noncomputable section

namespace Cert.ReferenceIdeal.Hand

open Cert.ReferenceIdeal Cert.ReferenceIdeal.Gen Cert.ReferenceIdeal.Value Idealize.ShloMosaic Cert.Spec
open Idealize.ShloMosaic.TcCoe

/-- What the loop carries, read off its buffers. -/
structure Car where
  text : Vec Ideal S32x256 .i32
  emb : Vec Ideal S97x512 .f32
  ebias : Vec Ideal S512 .f32
  wi0 : Vec Ideal S2048x512 .f32
  wh0 : Vec Ideal S2048x512 .f32
  bi0 : Vec Ideal S2048 .f32
  bh0 : Vec Ideal S2048 .f32
  wi1 : Vec Ideal S2048x512 .f32
  wh1 : Vec Ideal S2048x512 .f32
  bi1 : Vec Ideal S2048 .f32
  bh1 : Vec Ideal S2048 .f32
  fm : Vec Ideal S256x256x512 .f32
  ctr : Vec Ideal S_ .i32
  h0 : Vec Ideal S256x512 .f32
  c0 : Vec Ideal S256x512 .f32
  h1 : Vec Ideal S256x512 .f32
  c1 : Vec Ideal S256x512 .f32
  ctx : Vec Ideal S32x256x512 .f32
  mask : Vec Ideal S32x256x256 .f32

/-- The carried buffers of a valuation. -/
def car (V : Valuation τ sig (Elt Ideal)) : Car :=
  ⟨V (Proc.devRef .tc main_v7_0), V (Proc.devRef .tc main_v7_1), V (Proc.devRef .tc main_v7_2),
    V (Proc.devRef .tc main_v7_3), V (Proc.devRef .tc main_v7_4), V (Proc.devRef .tc main_v7_5),
    V (Proc.devRef .tc main_v7_6), V (Proc.devRef .tc main_v7_7), V (Proc.devRef .tc main_v7_8),
    V (Proc.devRef .tc main_v7_9), V (Proc.devRef .tc main_v7_10), V (Proc.devRef .tc main_v7_11),
    V (Proc.devRef .tc main_v7_12), V (Proc.devRef .tc main_v7_13), V (Proc.devRef .tc main_v7_14),
    V (Proc.devRef .tc main_v7_15), V (Proc.devRef .tc main_v7_16), V (Proc.devRef .tc main_v7_17),
    V (Proc.devRef .tc main_v7_18)⟩

/-- The weights. -/
def Car.par (K : Car) : Par where
  wi0 j k := K.wi0 (ix2 j k)
  wh0 j k := K.wh0 (ix2 j k)
  b0 j := K.bi0 (ix1 j) + K.bh0 (ix1 j)
  wi1 j k := K.wi1 (ix2 j k)
  wh1 j k := K.wh1 (ix2 j k)
  b1 j := K.bi1 (ix1 j) + K.bh1 (ix1 j)

/-- Batch row `b` of the state. -/
def Car.row (K : Car) (b : Fin 256) : Row where
  h0 j := K.h0 (ix2 b j)
  c0 j := K.c0 (ix2 b j)
  h1 j := K.h1 (ix2 b j)
  c1 j := K.c1 (ix2 b j)

/-- A start given by a word for `n`, inside the operand, is `n`. -/
theorem start_of {s t : Shape} (ht : t.rank = s.rank) (start : Fin s.rank → Int) (a : Fin s.rank) (n : Nat)
    (hs : start a = n) (hle : n + t.size (a.cast ht.symm) ≤ s.size a) : Host.clampedStart s t ht start a = n :=
  Host.clampedStart_of_le ht start a n hs hle

/-- The word of a small number, read signed. -/
theorem toInt_word (t : Fin 32) : (BitVec.ofNat 32 t.val).toInt = (t.val : Int) :=
  StableHlo.Predicate.toInt_ofNat_small t.val (by omega)

/-- The row of a matrix at a counter's value. -/
theorem slice2 {α : Type} (x : S32x256.Idx → α) (c : Vec Ideal S_ .i32) (t : Fin 32)
    (hc : c = fun _ => BitVec.ofNat 32 t.val) (b : Fin 256) :
    Host.dynamicSlice S1x256 x (fun k => (((![c, constantI S_ 32 0#32] :
      Fin 2 → (⟨S_, .i32⟩ : BufTy).Contents (Elt Ideal))) k (Shape.Idx.first h_S_)).toInt) sliceFits_S32x256_S1x256 (ix2 0 b)
      = x (ix2 t b) := by
  rw [Host.dynamicSlice_apply]
  refine congrArg x (funext fun a => Fin.ext ?_)
  subst hc
  match a with
  | ⟨0, _⟩ =>
    show Host.clampedStart _ _ _ _ 0 + 0 = t.val
    rw [Host.clampedStart_of_le _ _ 0 t.val (toInt_word t) (by show t.val + 1 ≤ 32; omega)]
    omega
  | ⟨1, _⟩ =>
    show Host.clampedStart _ _ _ _ 1 + b.val = b.val
    rw [Host.clampedStart_of_le _ _ 1 0 rfl (by show 0 + 256 ≤ 256; omega)]
    omega

/-- One row of a stack of matrices is replaced, at a counter's value; the others stay. -/
theorem update3 {α : Type} {n : ℕ} (x : (⟨3, ![32, 256, n]⟩ : Shape).Idx → α) (u : (⟨3, ![1, 256, n]⟩ : Shape).Idx → α)
    (c : Vec Ideal S_ .i32) (t : Fin 32) (hc : c = fun _ => BitVec.ofNat 32 t.val)
    (hf : (⟨3, ![32, 256, n]⟩ : Shape).Slices (fun _ => 0) ⟨3, ![1, 256, n]⟩) (t' : Fin 32) (b : Fin 256) (j : Fin n) :
    Host.dynamicUpdateSlice x u (fun k => (((![c, constantI S_ 32 0#32, constantI S_ 32 0#32] :
      Fin 3 → (⟨S_, .i32⟩ : BufTy).Contents (Elt Ideal))) k (Shape.Idx.first h_S_)).toInt) hf (ix3 t' b j)
      = if t' = t then u (ix3 0 b j) else x (ix3 t' b j) := by
  rw [Host.dynamicUpdateSlice_apply]
  subst hc
  have h0 := Host.clampedStart_of_le (s := ⟨3, ![32, 256, n]⟩) (t := ⟨3, ![1, 256, n]⟩) hf.1
    (fun k => (((![(fun _ => BitVec.ofNat 32 t.val), constantI S_ 32 0#32, constantI S_ 32 0#32] :
      Fin 3 → (⟨S_, .i32⟩ : BufTy).Contents (Elt Ideal))) k (Shape.Idx.first h_S_)).toInt) 0 t.val (toInt_word t)
    (by show t.val + 1 ≤ 32; omega)
  have h1 := Host.clampedStart_of_le (s := ⟨3, ![32, 256, n]⟩) (t := ⟨3, ![1, 256, n]⟩) hf.1
    (fun k => (((![(fun _ => BitVec.ofNat 32 t.val), constantI S_ 32 0#32, constantI S_ 32 0#32] :
      Fin 3 → (⟨S_, .i32⟩ : BufTy).Contents (Elt Ideal))) k (Shape.Idx.first h_S_)).toInt) 1 0 rfl
    (by show 0 + 256 ≤ 256; omega)
  have h2 := Host.clampedStart_of_le (s := ⟨3, ![32, 256, n]⟩) (t := ⟨3, ![1, 256, n]⟩) hf.1
    (fun k => (((![(fun _ => BitVec.ofNat 32 t.val), constantI S_ 32 0#32, constantI S_ 32 0#32] :
      Fin 3 → (⟨S_, .i32⟩ : BufTy).Contents (Elt Ideal))) k (Shape.Idx.first h_S_)).toInt) 2 0 rfl
    (by show 0 + n ≤ n; omega)
  by_cases ht : t' = t
  · subst ht
    rw [if_pos rfl, dif_pos]
    · refine congrArg u (funext fun a => Fin.ext ?_)
      match a with
      | ⟨0, _⟩ =>
        show t'.val - Host.clampedStart _ _ _ _ 0 = 0
        rw [h0]; omega
      | ⟨1, _⟩ =>
        show b.val - Host.clampedStart _ _ _ _ 1 = b.val
        rw [h1]; omega
      | ⟨2, _⟩ =>
        show j.val - Host.clampedStart _ _ _ _ 2 = j.val
        rw [h2]; omega
    · intro a
      match a with
      | ⟨0, _⟩ =>
        show Host.clampedStart _ _ _ _ 0 ≤ t'.val ∧ t'.val < Host.clampedStart _ _ _ _ 0 + 1
        rw [h0]; omega
      | ⟨1, _⟩ =>
        show Host.clampedStart _ _ _ _ 1 ≤ b.val ∧ b.val < Host.clampedStart _ _ _ _ 1 + 256
        rw [h1]; omega
      | ⟨2, _⟩ =>
        show Host.clampedStart _ _ _ _ 2 ≤ j.val ∧ j.val < Host.clampedStart _ _ _ _ 2 + n
        rw [h2]; omega
  · rw [if_neg ht, dif_neg]
    intro h
    have : Host.clampedStart _ _ _ _ 0 ≤ t'.val ∧ t'.val < Host.clampedStart _ _ _ _ 0 + 1 := h 0
    rw [h0] at this
    exact ht (Fin.ext (by omega))

theorem v16_apply (V : Valuation τ sig (Elt Ideal)) (b : Fin 256) (t : Fin 32)
    (ht : (car V).ctr = fun _ => BitVec.ofNat 32 t.val) :
    (res_main_while0b_v16 V : Vec Ideal S256 .i32) (ix1 b) = (car V).text (ix2 t b) := by
  rw [← slice2 (car V).text (car V).ctr t ht b]
  unfold res_main_while0b_v16
  pointwise [car]
  rfl

/-- The wrap of a negative index leaves a character's number as it is. -/
theorem wrap_of (w : BitVec 32) (i : Fin 97) (hw : w = BitVec.ofNat 32 i.val) :
    Scalar.select (IntOp.cmpi .slt w 0#32) (w + 97#32) w = BitVec.ofNat 32 i.val := by
  subst hw
  revert i
  decide

theorem v37_apply (V : Valuation τ sig (Elt Ideal)) (b : Fin 256) (j : Fin 2048) (t : Fin 32) (i : Fin 97)
    (ht : (car V).ctr = fun _ => BitVec.ofNat 32 t.val) (hi : (car V).text (ix2 t b) = BitVec.ofNat 32 i.val) :
    (res_main_while0b_v37 V : Vec Ideal S256x2048 .f32) (ix2 b j)
      = gates (fun k => (car V).emb (ix2 i k) + (car V).ebias (ix1 k))
          ((car V).row b).h0 (car V).par.wi0 (car V).par.wh0 (car V).par.b0 j := by
  have hv := (v16_apply V b t ht).trans hi
  have hg : ∀ k : Fin 512, (Host.gather gather_S97x512_S256x1_S256x512_1_0_n_n_0_1_1512 ((car V).emb) (broadcastInDim S256x1 ![0] bcast_S256_S256x1_0 (select (cmpi .slt (res_main_while0b_v16 V) (broadcastInDim S256 ![] bcast_S_S256 (constantI S_ 32 0#32))) (addi (res_main_while0b_v16 V) (broadcastInDim S256 ![] bcast_S_S256 (constantI S_ 32 97#32))) (res_main_while0b_v16 V)))) (ix2 b k)
      = (car V).emb (ix2 i k) := fun k => by
    simp only [ix2_eq_valueIdx]
    refine Routing.gather_row _ rfl rfl rfl rfl rfl _ _ b k i ?_ (by omega)
    simp only [← ix2_eq_valueIdx]
    rw [← wrap_of _ i hv]
    pointwise
    rfl
  unfold res_main_while0b_v37
  clean_types
  pointwise [gates, Car.par, Car.row, car]
  simp only [car] at hg
  simp only [hg]
  rw [add_assoc]

theorem v57_apply (V : Valuation τ sig (Elt Ideal)) (b : Fin 256) (j : Fin 512) :
    (res_main_while0b_v57 V : Vec Ideal S256x512 .f32) (ix2 b j)
      = cell (fun j => (res_main_while0b_v37 V : Vec Ideal S256x2048 .f32) (ix2 b j)) ((car V).row b).c0 j := by
  unfold res_main_while0b_v57
  clean_types
  pointwise [cell, Car.row, car, Ideal.logistic]

theorem v65_apply (V : Valuation τ sig (Elt Ideal)) (b : Fin 256) (j : Fin 512) :
    (res_main_while0b_v65 V : Vec Ideal S256x512 .f32) (ix2 b j)
      = hid (fun j => (res_main_while0b_v37 V : Vec Ideal S256x2048 .f32) (ix2 b j)) ((car V).row b).c0 j := by
  have h := v57_apply V b j
  unfold hid
  rw [← h]
  unfold res_main_while0b_v65
  clean_types
  pointwise [Ideal.logistic]

theorem v76_apply (V : Valuation τ sig (Elt Ideal)) (b : Fin 256) (j : Fin 2048) :
    (res_main_while0b_v76 V : Vec Ideal S256x2048 .f32) (ix2 b j)
      = gates (fun k => (res_main_while0b_v65 V : Vec Ideal S256x512 .f32) (ix2 b k))
          ((car V).row b).h1 (car V).par.wi1 (car V).par.wh1 (car V).par.b1 j := by
  unfold res_main_while0b_v76
  clean_types
  pointwise [gates, Car.par, Car.row, car]
  rw [add_assoc]

theorem v96_apply (V : Valuation τ sig (Elt Ideal)) (b : Fin 256) (j : Fin 512) :
    (res_main_while0b_v96 V : Vec Ideal S256x512 .f32) (ix2 b j)
      = cell (fun j => (res_main_while0b_v76 V : Vec Ideal S256x2048 .f32) (ix2 b j)) ((car V).row b).c1 j := by
  unfold res_main_while0b_v96
  clean_types
  pointwise [cell, Car.row, car, Ideal.logistic]

theorem v104_apply (V : Valuation τ sig (Elt Ideal)) (b : Fin 256) (j : Fin 512) :
    (res_main_while0b_v104 V : Vec Ideal S256x512 .f32) (ix2 b j)
      = hid (fun j => (res_main_while0b_v76 V : Vec Ideal S256x2048 .f32) (ix2 b j)) ((car V).row b).c1 j := by
  have h := v96_apply V b j
  unfold hid
  rw [← h]
  unfold res_main_while0b_v104
  clean_types
  pointwise [Ideal.logistic]

/-- The features of batch row `b`. -/
def Car.feat (K : Car) (b : Fin 256) (q : Fin 256) (k : Fin 512) : EReal := K.fm (ix3 b q k)

theorem v111_apply (V : Valuation τ sig (Elt Ideal)) (b : Fin 256) (q : Fin 256) :
    (res_main_while0b_v111 V : Vec Ideal S256x256 .f32) (ix2 b q)
      = mask ((car V).feat b) (fun k => (res_main_while0b_v104 V : Vec Ideal S256x512 .f32) (ix2 b k)) q := by
  unfold res_main_while0b_v111
  clean_types
  pointwise [mask, car, Car.feat, Ideal.logistic]
  simp only [mul_comm]

theorem mask_apply (V : Valuation τ sig (Elt Ideal)) (t t' : Fin 32) (b : Fin 256) (q : Fin 256)
    (ht : (car V).ctr = fun _ => BitVec.ofNat 32 t.val) :
    (step_main_v7_18 V : Vec Ideal S32x256x256 .f32) (ix3 t' b q)
      = if t' = t then mask ((car V).feat b) (fun k => (res_main_while0b_v104 V : Vec Ideal S256x512 .f32) (ix2 b k)) q
        else (car V).mask (ix3 t' b q) := by
  rw [← v111_apply]
  refine Eq.trans ?_ ((update3 (car V).mask
    (broadcastInDim S1x256x256 ![1, 2] bcast_S256x256_S1x256x256_1_2 (res_main_while0b_v111 V : Vec Ideal S256x256 .f32))
    (car V).ctr t ht updateFits_S32x256x256_S1x256x256 t' b q).trans ?_)
  · rfl
  · pointwise

theorem ctx_apply (V : Valuation τ sig (Elt Ideal)) (t t' : Fin 32) (b : Fin 256) (j : Fin 512)
    (ht : (car V).ctr = fun _ => BitVec.ofNat 32 t.val) :
    (step_main_v7_17 V : Vec Ideal S32x256x512 .f32) (ix3 t' b j)
      = if t' = t then ctx ((car V).feat b) (fun k => (res_main_while0b_v104 V : Vec Ideal S256x512 .f32) (ix2 b k)) j
        else (car V).ctx (ix3 t' b j) := by
  unfold ctx
  simp only [← v111_apply]
  refine Eq.trans ?_ ((update3 (car V).ctx
    (broadcastInDim S1x256x512 ![1, 2] bcast_S256x512_S1x256x512_1_2 (Host.dotGeneral (F := Ideal) (φ₁ := .f32) (φ₂ := .f32) dot_S256x256_S256x256x512_S256x512_1_1_n_2_0_0 none (res_main_while0b_v111 V) (car V).fm : FVec Ideal S256x512 .f32))
    (car V).ctr t ht updateFits_S32x256x512_S1x256x512 t' b j).trans ?_)
  · rfl
  · pointwise [Car.feat]
    simp only [mul_comm]

end Cert.ReferenceIdeal.Hand
-- ==== Proof.RefLoop.lean ====
/-
  Hand-written, untrusted. The reference's loop: after `n` positions the carried buffers hold every batch row's state
  after `n` steps, and the rows already written of the two stacks.
-/
module

public import proofs.«01_k».proof.Proof.RefStep

@[expose] public section

set_option maxRecDepth 16384

noncomputable section

namespace Cert.ReferenceIdeal.Hand

open Cert.ReferenceIdeal Cert.ReferenceIdeal.Gen Cert.ReferenceIdeal.Value Idealize.ShloMosaic Cert.Spec
open Idealize.ShloMosaic.TcCoe

/-- One trip, on what is carried. -/
theorem car_step (V : Valuation τ sig (Elt Ideal)) : car (STEP V) = { car V with
    ctr := step_main_v7_12 V, h0 := res_main_while0b_v65 V, c0 := res_main_while0b_v57 V,
    h1 := res_main_while0b_v104 V, c1 := res_main_while0b_v96 V,
    ctx := step_main_v7_17 V, mask := step_main_v7_18 V } := by
  unfold car
  rw [STEP_main_v7_0, STEP_main_v7_1, STEP_main_v7_2, STEP_main_v7_3, STEP_main_v7_4, STEP_main_v7_5, STEP_main_v7_6,
    STEP_main_v7_7, STEP_main_v7_8, STEP_main_v7_9, STEP_main_v7_10, STEP_main_v7_11, STEP_main_v7_12, STEP_main_v7_13,
    STEP_main_v7_14, STEP_main_v7_15, STEP_main_v7_16, STEP_main_v7_17, STEP_main_v7_18]
  rfl

/-- The embedded characters of batch row `b`. -/
def Car.emb_at (K : Car) (idx : Fin 256 → Fin 32 → Fin 97) (b : Fin 256) (n : ℕ) (k : Fin 512) : EReal :=
  if h : n < 32 then K.emb (ix2 (idx b ⟨n, h⟩) k) + K.ebias (ix1 k) else 0

/-- What holds after `n` positions, of what was carried in. -/
structure At (K : Car) (idx : Fin 256 → Fin 32 → Fin 97) (n : ℕ) (L : Car) : Prop where
  text : L.text = K.text
  emb : L.emb = K.emb
  ebias : L.ebias = K.ebias
  par : L.par = K.par
  fm : L.fm = K.fm
  ctr : L.ctr = fun _ => BitVec.ofNat 32 n
  row : ∀ b, L.row b = rowAt K.par (K.emb_at idx b) n
  ctx : ∀ (t : Fin 32) (b : Fin 256) (j : Fin 512), t.val < n →
    L.ctx (ix3 t b j) = ctx (K.feat b) (rowAt K.par (K.emb_at idx b) (t.val + 1)).h1 j
  mask : ∀ (t : Fin 32) (b : Fin 256) (q : Fin 256), t.val < n →
    L.mask (ix3 t b q) = mask (K.feat b) (rowAt K.par (K.emb_at idx b) (t.val + 1)).h1 q

/-- The counter's step. -/
theorem ctr_next (V : Valuation τ sig (Elt Ideal)) (n : ℕ) (h : (car V).ctr = fun _ => BitVec.ofNat 32 n) :
    (step_main_v7_12 V : Vec Ideal S_ .i32) = fun _ => BitVec.ofNat 32 (n + 1) := by
  funext i
  show IntOp.addi ((car V).ctr i) 1#32 = _
  rw [h]
  show BitVec.ofNat 32 n + BitVec.ofNat 32 1 = _
  rw [← BitVec.ofNat_add]

theorem At.step {K : Car} {idx : Fin 256 → Fin 32 → Fin 97}
    (hidx : ∀ b t, K.text (ix2 t b) = BitVec.ofNat 32 (idx b t).val) {n : ℕ} (hn : n < 32)
    {V : Valuation τ sig (Elt Ideal)} (h : At K idx n (car V)) : At K idx (n + 1) (car (STEP V)) := by
  have hi : ∀ b, (car V).text (ix2 (⟨n, hn⟩ : Fin 32) b) = BitVec.ofNat 32 (idx b ⟨n, hn⟩).val := fun b => by
    rw [h.text]; exact hidx b ⟨n, hn⟩
  have hx : ∀ b, (fun k => (car V).emb (ix2 (idx b ⟨n, hn⟩) k) + (car V).ebias (ix1 k)) = K.emb_at idx b n := fun b => by
    funext k
    unfold Car.emb_at
    rw [dif_pos hn, h.emb, h.ebias]
  have g0 : ∀ b, (fun j => (res_main_while0b_v37 V : Vec Ideal S256x2048 .f32) (ix2 b j))
      = gates (K.emb_at idx b n) ((car V).row b).h0 K.par.wi0 K.par.wh0 K.par.b0 := fun b => by
    funext j
    rw [v37_apply V b j ⟨n, hn⟩ _ h.ctr (hi b), hx, h.par]
  have e65 : ∀ b, (fun j => (res_main_while0b_v65 V : Vec Ideal S256x512 .f32) (ix2 b j))
      = (Spec.step K.par (K.emb_at idx b n) ((car V).row b)).h0 := fun b => by
    funext j
    rw [v65_apply, g0]
    rfl
  have e57 : ∀ b, (fun j => (res_main_while0b_v57 V : Vec Ideal S256x512 .f32) (ix2 b j))
      = (Spec.step K.par (K.emb_at idx b n) ((car V).row b)).c0 := fun b => by
    funext j
    rw [v57_apply, g0]
    rfl
  have g1 : ∀ b, (fun j => (res_main_while0b_v76 V : Vec Ideal S256x2048 .f32) (ix2 b j))
      = gates (Spec.step K.par (K.emb_at idx b n) ((car V).row b)).h0 ((car V).row b).h1 K.par.wi1 K.par.wh1 K.par.b1 :=
    fun b => by
      funext j
      rw [v76_apply, e65, h.par]
  have e104 : ∀ b, (fun j => (res_main_while0b_v104 V : Vec Ideal S256x512 .f32) (ix2 b j))
      = (Spec.step K.par (K.emb_at idx b n) ((car V).row b)).h1 := fun b => by
    funext j
    rw [v104_apply, g1]
    rfl
  have e96 : ∀ b, (fun j => (res_main_while0b_v96 V : Vec Ideal S256x512 .f32) (ix2 b j))
      = (Spec.step K.par (K.emb_at idx b n) ((car V).row b)).c1 := fun b => by
    funext j
    rw [v96_apply, g1]
    rfl
  have hrow : ∀ b, Spec.step K.par (K.emb_at idx b n) ((car V).row b) = rowAt K.par (K.emb_at idx b) (n + 1) :=
    fun b => by rw [h.row b]; rfl
  have hf : ∀ b, (car V).feat b = K.feat b := fun b => by
    unfold Car.feat
    rw [h.fm]
  rw [car_step]
  exact
    { text := h.text, emb := h.emb, ebias := h.ebias, par := h.par, fm := h.fm
      ctr := ctr_next V n h.ctr
      row := fun b => by
        rw [← hrow b]
        exact Row.ext (e65 b) (e57 b) (e104 b) (e96 b)
      ctx := fun t b j ht => by
        show (step_main_v7_17 V : Vec Ideal S32x256x512 .f32) (ix3 t b j) = _
        rw [ctx_apply V ⟨n, hn⟩ t b j h.ctr]
        by_cases e : t = ⟨n, hn⟩
        · rw [if_pos e, e104, hrow, hf, e]
        · rw [if_neg e]
          exact h.ctx t b j (by have : t.val ≠ n := fun q => e (Fin.ext q); omega)
      mask := fun t b q ht => by
        show (step_main_v7_18 V : Vec Ideal S32x256x256 .f32) (ix3 t b q) = _
        rw [mask_apply V ⟨n, hn⟩ t b q h.ctr]
        by_cases e : t = ⟨n, hn⟩
        · rw [if_pos e, e104, hrow, hf, e]
        · rw [if_neg e]
          exact h.mask t b q (by have : t.val ≠ n := fun q => e (Fin.ext q); omega) }

/-- After `n` positions. -/
theorem at_iter {V : Valuation τ sig (Elt Ideal)} {idx : Fin 256 → Fin 32 → Fin 97}
    (hidx : ∀ b t, (car V).text (ix2 t b) = BitVec.ofNat 32 (idx b t).val)
    (hc : (car V).ctr = fun _ => 0#32) (hz : ∀ b, (car V).row b = ⟨fun _ => 0, fun _ => 0, fun _ => 0, fun _ => 0⟩)
    (n : ℕ) (hn : n ≤ 32) : At (car V) idx n (car (STEP^[n] V)) := by
  induction n with
  | zero =>
    exact { text := rfl, emb := rfl, ebias := rfl, par := rfl, fm := rfl, ctr := hc, row := fun b => hz b,
            ctx := fun _ _ _ h => absurd h (Nat.not_lt_zero _), mask := fun _ _ _ h => absurd h (Nat.not_lt_zero _) }
  | succ n ih =>
    rw [Function.iterate_succ_apply']
    exact (ih (by omega)).step hidx (by omega)

end Cert.ReferenceIdeal.Hand
-- ==== Proof.RefVal.lean ====
/-
  Hand-written, untrusted. The reference's three results, element by element, of its arguments.
-/
module

public import proofs.«01_k».proof.Proof.RefLoop
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Idealize.ShloMosaic Cert.Spec
open Idealize.ShloMosaic.TcCoe Idealize.ShloMosaic.StableHlo

variable (m : (ℓ : Loc nD τ sig) → Buf (Elt Ideal) ℓ) (c : Dev nD)

/-- The arguments in memory. -/
def args : Args :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10), m ((c.tc : Thread nD τ).loc main_arg11),
    m ((c.tc : Thread nD τ).loc main_arg12), m ((c.tc : Thread nD τ).loc main_arg13)⟩

/-- What the loop carries in. -/
abbrev ent : Car := car (entryContents preI m c)

theorem ent_text (b : Fin 256) (t : Fin 32) : (ent m c).text (ix2 t b) = (args m c).text (ix2 b t) := by
  show entryContents preI m c (Proc.devRef .tc main_v7_0) (ix2 t b) = _
  simp only [entryContents, afterL_cons, afterL_nil]
  after_reads_at
  simp only [id_eq]
  pointwise [args]

theorem ent_emb (i : Fin 97) (k : Fin 512) : (ent m c).emb (ix2 i k) = (args m c).embW (ix2 k i) := by
  show entryContents preI m c (Proc.devRef .tc main_v7_1) (ix2 i k) = _
  simp only [entryContents, afterL_cons, afterL_nil]
  after_reads_at
  simp only [id_eq]
  pointwise [args]

theorem ent_ebias (k : Fin 512) : (ent m c).ebias (ix1 k) = (args m c).embB (ix1 k) := by
  show entryContents preI m c (Proc.devRef .tc main_v7_2) (ix1 k) = _
  simp only [entryContents, afterL_cons, afterL_nil]
  after_reads_at
  simp only [id_eq]
  pointwise [args]

theorem ent_feat (b q : Fin 256) (k : Fin 512) : (ent m c).feat b q k = (args m c).feat b q k := by
  show entryContents preI m c (Proc.devRef .tc main_v7_11) (ix3 b q k) = _
  simp only [entryContents, afterL_cons, afterL_nil]
  after_reads_at
  simp only [id_eq]
  pointwise [args]
  rfl

theorem ent_ctr : (ent m c).ctr = fun _ => 0#32 := ctr_entry m c

theorem ent_row (b : Fin 256) : (ent m c).row b = ⟨fun _ => 0, fun _ => 0, fun _ => 0, fun _ => 0⟩ := by
  apply Row.ext <;> funext j
  · show entryContents preI m c (Proc.devRef .tc main_v7_13) (ix2 b j) = _
    simp only [entryContents, afterL_cons, afterL_nil]
    after_reads_at
    simp only [id_eq]
    pointwise
  · show entryContents preI m c (Proc.devRef .tc main_v7_14) (ix2 b j) = _
    simp only [entryContents, afterL_cons, afterL_nil]
    after_reads_at
    simp only [id_eq]
    pointwise
  · show entryContents preI m c (Proc.devRef .tc main_v7_15) (ix2 b j) = _
    simp only [entryContents, afterL_cons, afterL_nil]
    after_reads_at
    simp only [id_eq]
    pointwise
  · show entryContents preI m c (Proc.devRef .tc main_v7_16) (ix2 b j) = _
    simp only [entryContents, afterL_cons, afterL_nil]
    after_reads_at
    simp only [id_eq]
    pointwise

theorem ent_par : (ent m c).par = (args m c).par := by
  have e3 : (ent m c).wi0 = (args m c).wi0 := by
    show entryContents preI m c (Proc.devRef .tc main_v7_3) = _
    simp only [entryContents, afterL_cons, afterL_nil]
    after_reads_simp
    rfl
  have e4 : (ent m c).wh0 = (args m c).wh0 := by
    show entryContents preI m c (Proc.devRef .tc main_v7_4) = _
    simp only [entryContents, afterL_cons, afterL_nil]
    after_reads_simp
    rfl
  have e5 : (ent m c).bi0 = (args m c).bi0 := by
    show entryContents preI m c (Proc.devRef .tc main_v7_5) = _
    simp only [entryContents, afterL_cons, afterL_nil]
    after_reads_simp
    rfl
  have e6 : (ent m c).bh0 = (args m c).bh0 := by
    show entryContents preI m c (Proc.devRef .tc main_v7_6) = _
    simp only [entryContents, afterL_cons, afterL_nil]
    after_reads_simp
    rfl
  have e7 : (ent m c).wi1 = (args m c).wi1 := by
    show entryContents preI m c (Proc.devRef .tc main_v7_7) = _
    simp only [entryContents, afterL_cons, afterL_nil]
    after_reads_simp
    rfl
  have e8 : (ent m c).wh1 = (args m c).wh1 := by
    show entryContents preI m c (Proc.devRef .tc main_v7_8) = _
    simp only [entryContents, afterL_cons, afterL_nil]
    after_reads_simp
    rfl
  have e9 : (ent m c).bi1 = (args m c).bi1 := by
    show entryContents preI m c (Proc.devRef .tc main_v7_9) = _
    simp only [entryContents, afterL_cons, afterL_nil]
    after_reads_simp
    rfl
  have e10 : (ent m c).bh1 = (args m c).bh1 := by
    show entryContents preI m c (Proc.devRef .tc main_v7_10) = _
    simp only [entryContents, afterL_cons, afterL_nil]
    after_reads_simp
    rfl
  unfold Car.par Args.par
  rw [e3, e4, e5, e6, e7, e8, e9, e10]

variable {idx : Fin 256 → Fin 32 → Fin 97}

theorem ent_emb_at (b : Fin 256) : (ent m c).emb_at idx b = (args m c).emb idx b := by
  funext n k
  unfold Car.emb_at Args.emb
  by_cases h : n < 32
  · rw [dif_pos h, dif_pos h, ent_emb, ent_ebias]
  · rw [dif_neg h, dif_neg h]

/-- After the loop. -/
theorem last (hidx : (args m c).InRange idx) :
    At (ent m c) idx 32 (car (STEP^[32] (entryContents preI m c))) :=
  at_iter (fun b t => (ent_text m c b t).trans (hidx b t)) (ent_ctr m c) (ent_row m c) 32 le_rfl

theorem last_ctx (hidx : (args m c).InRange idx) (b : Fin 256) (t : Fin 32) (j : Fin 512) :
    (car (STEP^[32] (entryContents preI m c))).ctx (ix3 t b j) = (args m c).ctx idx b t j := by
  rw [(last m c hidx).ctx t b j t.isLt, ent_par, ent_emb_at, show (ent m c).feat b = (args m c).feat b from
    funext fun q => funext fun k => ent_feat m c b q k]
  rfl

theorem last_mask (hidx : (args m c).InRange idx) (b : Fin 256) (t : Fin 32) (q : Fin 256) :
    (car (STEP^[32] (entryContents preI m c))).mask (ix3 t b q) = (args m c).mask idx b t q := by
  rw [(last m c hidx).mask t b q t.isLt, ent_par, ent_emb_at, show (ent m c).feat b = (args m c).feat b from
    funext fun q => funext fun k => ent_feat m c b q k]
  rfl

theorem v8_apply (hidx : (args m c).InRange idx) (b : Fin 256) (t : Fin 32) (j : Fin 512) :
    (out_main_v8 (STEP^[32] (entryContents preI m c)) : Vec Ideal S256x32x512 .f32) (ix3 b t j)
      = (args m c).ctx idx b t j := by
  rw [← last_ctx m c hidx]
  unfold out_main_v8
  pointwise [car]

theorem v10_apply (hidx : (args m c).InRange idx) (b : Fin 256) (t : Fin 32) (y : Fin 8) (x : Fin 32) :
    (out_main_v10 (STEP^[32] (entryContents preI m c)) : Vec Ideal S256x32x8x32 .f32) (ix4 b t y x)
      = (args m c).mask idx b t ⟨y.val * 32 + x.val, by omega⟩ := by
  rw [← last_mask m c hidx]
  unfold out_main_v10
  clean_types
  pointwise [car]

/-- The scores' readout, of any context vectors, weights and bias. -/
theorem score_read (x : Vec Ideal S32x256x512 .f32) (w : Vec Ideal S97x512 .f32) (g : Vec Ideal S97 .f32)
    (b : Fin 256) (t : Fin 32) (j : Fin 97) :
    (addf (F := Ideal) (φ := .f32) (Host.dotGeneral (F := Ideal) (φ₁ := .f32) (φ₂ := .f32) dot_S256x32x512_S512x97_S256x32x97_2_0_01_1_n_n none
          (transpose S256x32x512 [1, 0, 2] x transposes_S32x256x512_S256x32x512_1_0_2)
          (transpose S512x97 [1, 0] w transposes_S97x512_S512x97_1_0))
        (broadcastInDim S256x32x97 ![0, 1, 2] bcast_S1x1x97_S256x32x97_0_1_2
          (broadcastInDim S1x1x97 ![2] bcast_S97_S1x1x97_2 g)) : Vec Ideal S256x32x97 .f32) (ix3 b t j)
      = (∑ k : Fin 512, x (ix3 t b k) * w (ix2 j k)) + g (ix1 j) := by
  pointwise

theorem v15_of (S : Valuation τ sig (Elt Ideal)) (A : Args) (b : Fin 256) (t : Fin 32)
    (h12 : S (Proc.devRef .tc main_arg12) = A.genW) (h13 : S (Proc.devRef .tc main_arg13) = A.genB)
    (hc : ∀ k, (car S).ctx (ix3 t b k) = A.ctx idx b t k) (j : Fin 97) :
    (out_main_v15 S : Vec Ideal S256x32x97 .f32) (ix3 b t j) = A.score idx b t j := by
  unfold out_main_v15
  rw [h12, h13]
  refine (score_read _ _ _ b t j).trans ?_
  unfold Args.score Spec.score
  refine congrArg₂ (· + ·) (Finset.sum_congr rfl fun k _ => ?_) rfl
  exact congrArg (· * A.genW (ix2 j k)) (hc k)

theorem v15_apply (hidx : (args m c).InRange idx) (b : Fin 256) (t : Fin 32) (j : Fin 97) :
    (out_main_v15 (STEP^[32] (entryContents preI m c)) : Vec Ideal S256x32x97 .f32) (ix3 b t j)
      = (args m c).score idx b t j :=
  v15_of _ (args m c) b t (iter_main_arg12 m c 32) (iter_main_arg13 m c 32) (last_ctx m c hidx b t) j

theorem v15_eq (hidx : (args m c).InRange idx) :
    out_main_v15 (STEP^[32] (entryContents preI m c)) = (args m c).scores idx := by
  funext i
  rw [eq_ix3 i]
  exact v15_apply m c hidx (i 0) (i 1) (i 2)

theorem v8_eq (hidx : (args m c).InRange idx) :
    out_main_v8 (STEP^[32] (entryContents preI m c)) = (args m c).ctxs idx := by
  funext i
  rw [eq_ix3 i]
  exact v8_apply m c hidx (i 0) (i 1) (i 2)

theorem v10_eq (hidx : (args m c).InRange idx) :
    out_main_v10 (STEP^[32] (entryContents preI m c)) = (args m c).masks idx := by
  funext i
  rw [eq_ix4 i]
  exact v10_apply m c hidx (i 0) (i 1) (i 2) (i 3)

end Cert.ReferenceIdeal.Hand
-- ==== Proof.OneText.lean ====
/-
  Hand-written, untrusted. The kernel at float bits is the text that the kernel at extended reals has, so what the runs of
  the second say for any floats, its frame among it, holds of the first.
-/
module

public import proofs.«01_k».proof.Defs
public import proofs.«01_k».proof.Proof.Gen.Kernel.Frame
public import proofs.«01_k».proof.Proof.Frames

@[expose] public section

set_option maxRecDepth 65536
set_option maxHeartbeats 0

noncomputable section

namespace Cert.Proof

open Idealize.ShloMosaic Idealize.SL.Sem

/-- The two texts give the launch one body. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl

/-- The two texts have one pipeline around it. -/
theorem defs_same : @Cert.Kernel.defs Bits _ Cert.Kernel.Gen.facts = @Cert.KernelIdeal.defs Bits _ Cert.KernelIdeal.Gen.facts :=
  congrArg (Pipeline.defs (Cert.KernelIdeal.pcfgs (F := Bits))) bodies_same

/-- The kernel at float bits ends with its arguments kept and every counter zero. -/
theorem quiet_kernel : Cert.quiescent_Kernel (hKernel := Cert.Kernel.Gen.facts) := by
  intro m g _
  rw [defs_same]
  exact Cert.KernelIdeal.Hand.kept_run (F := Bits) m g

end Cert.Proof
-- ==== Proof.lean ====
module

public import proofs.«01_k».proof.Defs
public import proofs.«01_k».proof.Proof.Gen.Pre_text_in_range
public import proofs.«01_k».proof.Proof.Gen.ReferenceIdeal.Run
public import proofs.«01_k».proof.Proof.Result
public import proofs.«01_k».proof.Proof.RefVal
public import proofs.«01_k».proof.Proof.OneText
public import Idealize.ShloMosaic.Lib.Quiescent

@[expose] public section

noncomputable section

namespace Cert.Proof

open Idealize.ShloMosaic Idealize.SL.Sem

/-- The kernel at extended reals ends with its arguments kept and every counter zero. -/
theorem quiet_kernelIdeal : Cert.quiescent_KernelIdeal (hKernelIdeal := Cert.KernelIdeal.Gen.facts) := fun m g _ =>
  Cert.KernelIdeal.Hand.kept_run m g

/-- The reference ends with its arguments kept; it declares no counter. -/
theorem quiet_reference : Cert.quiescent_ReferenceIdeal (hReferenceIdeal := Cert.ReferenceIdeal.Gen.facts) :=
  fun m g _ => (θ_run _ _ _).mono
    (fun r h => ⟨fun c => (h c).2.2.2, sem_eq_zero_of_no_sems (by decide) r.2⟩) (Cert.ReferenceIdeal.Value.run m g)

/-! ## The alphabet's range -/

theorem andi_one : ∀ x y : BitVec 1, IntOp.andi x y = 1#1 → x = 1#1 ∧ y = 1#1 := by decide

theorem foldl_andi {ι : Type} (f : ι → BitVec 1) (l : List ι) : ∀ b : BitVec 1, l.foldl (fun r i => IntOp.andi r (f i)) b = 1#1 →
    b = 1#1 ∧ ∀ i ∈ l, f i = 1#1 := by
  induction l with
  | nil => exact fun b h => ⟨h, fun i hi => by cases hi⟩
  | cons a l ih =>
    intro b h
    obtain ⟨h1, h2⟩ := ih _ h
    obtain ⟨h3, h4⟩ := andi_one _ _ h1
    refine ⟨h3, fun i hi => ?_⟩
    rcases List.mem_cons.1 hi with e | e
    · rw [e]; exact h4
    · exact h2 i e

/-- What the range precondition says of one character. -/
theorem text_lt (m : (ℓ : Loc Cert.KernelIdeal.nD Cert.KernelIdeal.τ Cert.KernelIdeal.sig) → Buf (Elt Ideal) ℓ)
    (h : Cert.Pre_KernelIdeal_text_in_range (hPre_text_in_range := Cert.Pre_text_in_range.Gen.facts) m) (c : Dev Cert.KernelIdeal.nD)
    (b : Fin 256) (t : Fin 32) : ((Cert.KernelIdeal.Hand.args m c).text (ix2 b t)).toNat < 97 := by
  have e := congrFun (h c) (fun a => a.elim0)
  unfold Cert.Pre_text_in_range.fn at e
  dsimp only at e
  rw [Host.reduce_eq_foldl] at e
  have q := (foldl_andi _ _ _ e).2 (ix2 b t) (List.mem_filter.2 ⟨List.mem_map.2 ⟨_, List.mem_finRange _, Equiv.symm_apply_apply _ (ix2 b t)⟩,
    decide_eq_true (funext fun a => a.elim0)⟩)
  have q' : IntOp.andi (IntOp.cmpi .sge ((Cert.KernelIdeal.Hand.args m c).text (ix2 b t)) 0#32)
      (IntOp.cmpi .slt ((Cert.KernelIdeal.Hand.args m c).text (ix2 b t)) (BitVec.ofNat 32 97)) = 1#1 := q
  rw [WordCmp.andi_sge_zero_slt_ofNat (by decide)] at q'
  by_contra hn
  rw [decide_eq_false hn] at q'
  exact absurd q' (by decide)

/-! ## The results -/

/-- Equal arguments, one network. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) : Cert.ReferenceIdeal.Hand.args m' c = Cert.KernelIdeal.Hand.args m c := by
  unfold Cert.ReferenceIdeal.Hand.args Cert.KernelIdeal.Hand.args
  rw [h0, h1, h2, h3, h4, h5, h6, h7, h8, h9, h10, h11, h12, h13]

theorem algebraic : Cert.algebraic_KernelIdeal_ReferenceIdeal_pre_text_in_range (hKernelIdeal := Cert.KernelIdeal.Gen.facts)
    (hReferenceIdeal := Cert.ReferenceIdeal.Gen.facts) (hPre_text_in_range := Cert.Pre_text_in_range.Gen.facts) := by
  intro m g m' g' hpre hargs
  let idx : Dev Cert.KernelIdeal.nD → Fin 256 → Fin 32 → Fin 97 := fun c b t => ⟨_, text_lt m hpre c b t⟩
  have hidx : ∀ c, (Cert.KernelIdeal.Hand.args m c).InRange (idx c) := fun c b t => by
    show _ = BitVec.ofNat 32 (BitVec.toNat _)
    rw [BitVec.ofNat_toNat, BitVec.setWidth_eq]
  have hA : ∀ c, Cert.ReferenceIdeal.Hand.args m' c = Cert.KernelIdeal.Hand.args m c := fun c => by
    obtain ⟨h0, h1, h2, h3, h4, h5, h6, h7, h8, h9, h10, h11, h12, h13, _⟩ := hargs c
    exact args_eq m m' c h0 h1 h2 h3 h4 h5 h6 h7 h8 h9 h10 h11 h12 h13
  refine ⟨fun c => (Cert.KernelIdeal.Hand.args m c).scores (idx c), fun c => (Cert.KernelIdeal.Hand.args m c).ctxs (idx c),
    fun c => (Cert.KernelIdeal.Hand.args m c).masks (idx c), ?_, ?_⟩
  · refine (θ_run _ _ _).mono (fun r h c => ?_) (Cert.KernelIdeal.Hand.run_main m g)
    obtain ⟨h0, h1, h2⟩ := Cert.KernelIdeal.Hand.Post.results c h
    exact ⟨h0.trans (Cert.KernelIdeal.Hand.out0_eq m c (hidx c)), h1.trans (Cert.KernelIdeal.Hand.out1_eq m c (hidx c)),
      h2.trans (Cert.KernelIdeal.Hand.out2_eq m c (hidx c)), h.kept c⟩
  · refine (θ_run _ _ _).mono (fun r h c => ?_) (Cert.ReferenceIdeal.Value.run m' g')
    obtain ⟨h0, h1, h2, hk⟩ := h c
    have hi : (Cert.ReferenceIdeal.Hand.args m' c).InRange (idx c) := by rw [hA c]; exact hidx c
    exact ⟨h0.trans ((Cert.ReferenceIdeal.Hand.v15_eq m' c hi).trans (congrArg (fun A => Cert.Spec.Args.scores A (idx c)) (hA c))),
      h1.trans ((Cert.ReferenceIdeal.Hand.v8_eq m' c hi).trans (congrArg (fun A => Cert.Spec.Args.ctxs A (idx c)) (hA c))),
      h2.trans ((Cert.ReferenceIdeal.Hand.v10_eq m' c hi).trans (congrArg (fun A => Cert.Spec.Args.masks A (idx c)) (hA c))), hk⟩

theorem claim : Cert.Claim :=
  ⟨Cert.Kernel.Gen.facts, Cert.KernelIdeal.Gen.facts, Cert.ReferenceIdeal.Gen.facts,
    Cert.Pre_text_in_range.Gen.facts, quiet_kernel, quiet_kernelIdeal, fun m g _ => quiet_kernelIdeal m g trivial,
    quiet_reference, fun m g _ => quiet_reference m g trivial, trivial, algebraic⟩

end Cert.Proof
